-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)) (v3 : (c : Dev Cert.KernelIdeal.nD) → Buf (Elt Ideal) ((c.tc : Thread Cert.KernelIdeal.nD Cert.KernelIdeal.τ).loc Cert.KernelIdeal.main_v71_3)) (v4 : (c : Dev Cert.KernelIdeal.nD) → Buf (Elt Ideal) ((c.tc : Thread Cert.KernelIdeal.nD Cert.KernelIdeal.τ).loc Cert.KernelIdeal.main_v71_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_v71_3) = v3 c
          ∧ r.2.mem ((c.tc : Thread Cert.KernelIdeal.nD Cert.KernelIdeal.τ).loc Cert.KernelIdeal.main_v71_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_v186) = v2 c
          ∧ r.2.mem ((c.tc : Thread Cert.ReferenceIdeal.nD Cert.ReferenceIdeal.τ).loc Cert.ReferenceIdeal.main_v182) = v3 c
          ∧ r.2.mem ((c.tc : Thread Cert.ReferenceIdeal.nD Cert.ReferenceIdeal.τ).loc Cert.ReferenceIdeal.main_v188) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v10) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v9) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)) →
    ∃ (v0 : (c : Dev Cert.KernelMixIdeal.nD) → Buf (Elt Ideal) ((c.tc : Thread Cert.KernelMixIdeal.nD Cert.KernelMixIdeal.τ).loc Cert.KernelMixIdeal.main_v0)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v10) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)) →
    ∃ (v0 : (c : Dev Cert.KernelLastIdeal.nD) → Buf (Elt Ideal) ((c.tc : Thread Cert.KernelLastIdeal.nD Cert.KernelLastIdeal.τ).loc Cert.KernelLastIdeal.main_v0)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v0) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v8) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelMix : Cert.KernelMix.Facts) (hKernelMixIdeal : Cert.KernelMixIdeal.Facts) (hReferenceMixIdeal : Cert.ReferenceMixIdeal.Facts) (hKernelLast : Cert.KernelLast.Facts) (hKernelLastIdeal : Cert.KernelLastIdeal.Facts) (hReferenceLastIdeal : Cert.ReferenceLastIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelMix_KernelMixIdeal
    ∧ algebraic_KernelMixIdeal_ReferenceMixIdeal (hKernelMixIdeal := hKernelMixIdeal) (hReferenceMixIdeal := hReferenceMixIdeal)
    ∧ preserves_KernelLast_KernelLastIdeal
    ∧ algebraic_KernelLastIdeal_ReferenceLastIdeal (hKernelLastIdeal := hKernelLastIdeal) (hReferenceLastIdeal := hReferenceLastIdeal)
-- ==== Pre_finite.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn_part1 {F : FTy → Type} [FloatOps F] (main_arg6 : FVec F S1024 .f32) (main_arg7 : FVec F S1024x5632 .f32) (main_arg8 : FVec F S3x5632 .f32) (main_arg9 : FVec F S2816x1024 .f32) (main_v2 : IVec S8192x1024 1) (main_v5 : IVec S8192x1024 1) (main_v8 : IVec S1024 1) (main_v11 : IVec S1024 1) (main_v14 : IVec S1024 1) (main_v17 : IVec S1024 1) : IVec S8192x1024 1 × IVec S8192x1024 1 × IVec S1024 1 × IVec S1024 1 × IVec S1024 1 × IVec S1024 1 × IVec S1024 1 × IVec S1024x5632 1 × IVec S3x5632 1 × IVec S2816x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x5632 .f32 := Host.absf main_arg7
  let main_cst_6 : FVec F S_ .f32 := constant S_ .f32 0x7F800000#32
  let main_v22 : FVec F S1024x5632 .f32 := broadcastInDim S1024x5632 ![] bcast_S_S1024x5632 main_cst_6
  let main_v23 : IVec S1024x5632 1 := cmpf .olt main_v21 main_v22
  let main_v24 : FVec F S3x5632 .f32 := Host.absf main_arg8
  let main_cst_7 : FVec F S_ .f32 := constant S_ .f32 0x7F800000#32
  let main_v25 : FVec F S3x5632 .f32 := broadcastInDim S3x5632 ![] bcast_S_S3x5632 main_cst_7
  let main_v26 : IVec S3x5632 1 := cmpf .olt main_v24 main_v25
  let main_v27 : FVec F S2816x1024 .f32 := Host.absf main_arg9
  let main_cst_8 : FVec F S_ .f32 := constant S_ .f32 0x7F800000#32
  let main_v28 : FVec F S2816x1024 .f32 := broadcastInDim S2816x1024 ![] bcast_S_S2816x1024 main_cst_8
  let main_v29 : IVec S2816x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S8192x1024 .f32) (main_arg2 : FVec F S1024 .f32) (main_arg3 : FVec F S1024 .f32) (main_arg4 : FVec F S1024 .f32) (main_arg5 : FVec F S1024 .f32) (main_arg6 : FVec F S1024 .f32) (main_arg7 : FVec F S1024x5632 .f32) (main_arg8 : FVec F S3x5632 .f32) (main_arg9 : FVec F S2816x1024 .f32) : IVec S8192x1024 1 × IVec S8192x1024 1 × IVec S1024 1 × IVec S1024 1 × IVec S1024 1 × IVec S1024 1 × IVec S1024 1 × IVec S1024x5632 1 × IVec S3x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_arg9 main_v2 main_v5 main_v8 main_v11 main_v14 main_v17
-- ==== Kernel.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S5x1024 : Shape := ⟨2, ![5, 1024]⟩
abbrev S8x1024 : Shape := ⟨2, ![8, 1024]⟩
abbrev S8192x4x1408 : Shape := ⟨3, ![8192, 4, 1408]⟩
abbrev S4x8192x1408 : Shape := ⟨3, ![4, 8192, 1408]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S8x5632 : Shape := ⟨2, ![8, 5632]⟩
abbrev S256x1024 : Shape := ⟨2, ![256, 1024]⟩
abbrev S4x256x1408 : Shape := ⟨3, ![4, 256, 1408]⟩
abbrev S4x16x1408 : Shape := ⟨3, ![4, 16, 1408]⟩
abbrev S2x256x512 : Shape := ⟨3, ![2, 256, 512]⟩
abbrev S256 : Shape := ⟨1, ![256]⟩
abbrev S256x1 : Shape := ⟨2, ![256, 1]⟩
abbrev S1x256x1024 : Shape := ⟨3, ![1, 256, 1024]⟩
abbrev S256x256 : Shape := ⟨2, ![256, 256]⟩
abbrev S1x256x256 : Shape := ⟨3, ![1, 256, 256]⟩
abbrev S1x256x512 : Shape := ⟨3, ![1, 256, 512]⟩
abbrev S256x512 : Shape := ⟨2, ![256, 512]⟩
abbrev S1x16x512 : Shape := ⟨3, ![1, 16, 512]⟩
abbrev S16x512 : Shape := ⟨2, ![16, 512]⟩
abbrev S272x512 : Shape := ⟨2, ![272, 512]⟩
abbrev S3x512 : Shape := ⟨2, ![3, 512]⟩
abbrev S1x512 : Shape := ⟨2, ![1, 512]⟩
abbrev S512 : Shape := ⟨1, ![512]⟩
abbrev S1x128x1024 : Shape := ⟨3, ![1, 128, 1024]⟩
abbrev S128x1024 : Shape := ⟨2, ![128, 1024]⟩
abbrev S256x128 : Shape := ⟨2, ![256, 128]⟩
abbrev S1x256x128 : Shape := ⟨3, ![1, 256, 128]⟩
abbrev S1x256x384 : Shape := ⟨3, ![1, 256, 384]⟩
abbrev S256x384 : Shape := ⟨2, ![256, 384]⟩
abbrev S1x16x384 : Shape := ⟨3, ![1, 16, 384]⟩
abbrev S16x384 : Shape := ⟨2, ![16, 384]⟩
abbrev S272x384 : Shape := ⟨2, ![272, 384]⟩
abbrev S3x384 : Shape := ⟨2, ![3, 384]⟩
abbrev S1x384 : Shape := ⟨2, ![1, 384]⟩
abbrev S384 : Shape := ⟨1, ![384]⟩
abbrev S1x256x1408 : Shape := ⟨3, ![1, 256, 1408]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 103
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S2816x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x5632, .f32⟩
  | .hbm, ⟨36, _⟩ => ⟨S_, .f32⟩
  | .hbm, ⟨37, _⟩ => ⟨S2x5632, .f32⟩
  | .hbm, ⟨38, _⟩ => ⟨S8194x5632, .f32⟩
  | .hbm, ⟨39, _⟩ => ⟨S1x5632, .f32⟩
  | .hbm, ⟨40, _⟩ => ⟨S5632, .f32⟩
  | .hbm, ⟨41, _⟩ => ⟨S8192x5632, .f32⟩
  | .hbm, ⟨42, _⟩ => ⟨S1x5632, .f32⟩
  | .hbm, ⟨43, _⟩ => ⟨S8192x5632, .f32⟩
  | .hbm, ⟨44, _⟩ => ⟨S8192x5632, .f32⟩
  | .hbm, ⟨45, _⟩ => ⟨S_, .f32⟩
  | .hbm, ⟨46, _⟩ => ⟨S8192x5632, .f32⟩
  | .hbm, ⟨47, _⟩ => ⟨S8192x5632, .f32⟩
  | .hbm, ⟨48, _⟩ => ⟨S1x5632, .f32⟩
  | .hbm, ⟨49, _⟩ => ⟨S5632, .f32⟩
  | .hbm, ⟨50, _⟩ => ⟨S8192x5632, .f32⟩
  | .hbm, ⟨51, _⟩ => ⟨S1x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S1x5632, .f32⟩
  | .hbm, ⟨56, _⟩ => ⟨S5632, .f32⟩
  | .hbm, ⟨57, _⟩ => ⟨S8192x5632, .f32⟩
  | .hbm, ⟨58, _⟩ => ⟨S1x5632, .f32⟩
  | .hbm, ⟨59, _⟩ => ⟨S8192x5632, .f32⟩
  | .hbm, ⟨60, _⟩ => ⟨S8192x5632, .f32⟩
  | .hbm, ⟨61, _⟩ => ⟨S8192x5632, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S_, .f32⟩
  | .hbm, ⟨67, _⟩ => ⟨S8192x2816, .f32⟩
  | .hbm, ⟨68, _⟩ => ⟨S8192x2816, .f32⟩
  | .hbm, ⟨69, _⟩ => ⟨S_, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S5x1024, .f32⟩
  | .hbm, ⟨84, _⟩ => ⟨S_, .i32⟩
  | .hbm, ⟨85, _⟩ => ⟨S_, .f32⟩
  | .hbm, ⟨86, _⟩ => ⟨S8x1024, .f32⟩
  | .hbm, ⟨87, _⟩ => ⟨S8192x4x1408, .f32⟩
  | .hbm, ⟨88, _⟩ => ⟨S4x8192x1408, .f32⟩
  | .hbm, ⟨89, _⟩ => ⟨S4x8192x1408, .bf16⟩
  | .hbm, ⟨90, _⟩ => ⟨S8192x4x1408, .f32⟩
  | .hbm, ⟨91, _⟩ => ⟨S4x8192x1408, .f32⟩
  | .hbm, ⟨92, _⟩ => ⟨S4x8192x1408, .bf16⟩
  | .hbm, ⟨93, _⟩ => ⟨S1024x4x1408, .f32⟩
  | .hbm, ⟨94, _⟩ => ⟨S4x1024x1408, .f32⟩
  | .hbm, ⟨95, _⟩ => ⟨S4x1024x1408, .bf16⟩
  | .hbm, ⟨96, _⟩ => ⟨S2x1408x1024, .f32⟩
  | .hbm, ⟨97, _⟩ => ⟨S2x1408x1024, .bf16⟩
  | .hbm, ⟨98, _⟩ => ⟨S8192x1024, .f32⟩
  | .hbm, ⟨99, _⟩ => ⟨S4x8192x1408, .bf16⟩
  | .hbm, ⟨100, _⟩ => ⟨S8192x1024, .bf16⟩
  | .hbm, ⟨101, _⟩ => ⟨S8x1024, .f32⟩
  | .hbm, ⟨102, _⟩ => ⟨S8x5632, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x256x1408, .bf16⟩
  | .local _ .vmem, ⟨7, _⟩ => ⟨S4x256x1408, .bf16⟩
  | .local _ .vmem, ⟨8, _⟩ => ⟨S4x256x1408, .bf16⟩
  | .local _ .vmem, ⟨9, _⟩ => ⟨S4x256x1408, .bf16⟩
  | .local _ .vmem, ⟨10, _⟩ => ⟨S8x1024, .f32⟩
  | .local _ .vmem, ⟨11, _⟩ => ⟨S4x1024x1408, .bf16⟩
  | .local _ .vmem, ⟨12, _⟩ => ⟨S3x5632, .f32⟩
  | .local _ .vmem, ⟨13, _⟩ => ⟨S2x1408x1024, .bf16⟩
  | .local _ .vmem, ⟨14, _⟩ => ⟨S256x1024, .f32⟩
  | .local _ .vmem, ⟨15, _⟩ => ⟨S256x1024, .f32⟩
  | .local _ .vmem, ⟨16, _⟩ => ⟨S4x256x1408, .bf16⟩
  | .local _ .vmem, ⟨17, _⟩ => ⟨S4x256x1408, .bf16⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | .local _ .vmem, ⟨21, _⟩ => ⟨S8x5632, .f32⟩
  | .local _ .vmem, ⟨22, _⟩ => ⟨S4x16x1408, .f32⟩
  | .local _ .vmem, ⟨23, _⟩ => ⟨S2x256x512, .f32⟩
  | .local _ .vmem, ⟨24, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_5 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71_0 : Ref sig .tc := ⟨.hbm, 98, rfl⟩
abbrev main_v71_1 : Ref sig .tc := ⟨.hbm, 99, rfl⟩
abbrev main_v71_2 : Ref sig .tc := ⟨.hbm, 100, rfl⟩
abbrev main_v71_3 : Ref sig .tc := ⟨.hbm, 101, rfl⟩
abbrev main_v71_4 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1408x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S1x1024 : Shape := ⟨2, ![1, 1024]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S5x1024 : Shape := ⟨2, ![5, 1024]⟩
abbrev S3x1024 : Shape := ⟨2, ![3, 1024]⟩
abbrev S8x1024 : Shape := ⟨2, ![8, 1024]⟩
abbrev S8192x4x1408 : Shape := ⟨3, ![8192, 4, 1408]⟩
abbrev S4x8192x1408 : Shape := ⟨3, ![4, 8192, 1408]⟩
abbrev S5x5632 : Shape := ⟨2, ![5, 5632]⟩
abbrev S8x5632 : Shape := ⟨2, ![8, 5632]⟩

abbrev nBuf : Space → Nat
  | .hbm => 258
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024x5632, .f32⟩
  | 8 => ⟨S3x5632, .f32⟩
  | 9 => ⟨S2816x1024, .f32⟩
  | 10 => ⟨S_, .f32⟩
  | 11 => ⟨S8192x5632, .f32⟩
  | 12 => ⟨S_, .f32⟩
  | 13 => ⟨S8192x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S1x1024, .f32⟩
  | 32 => ⟨S8192x1024, .f32⟩
  | 33 => ⟨S8192x1024, .f32⟩
  | 34 => ⟨S_, .f32⟩
  | 35 => ⟨S1024, .f32⟩
  | 36 => ⟨S1024, .f32⟩
  | 37 => ⟨S1x1024, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S8192x5632, .f32⟩
  | 44 => ⟨S8192x5632, .f32⟩
  | 45 => ⟨S_, .f32⟩
  | 46 => ⟨S2x5632, .f32⟩
  | 47 => ⟨S8194x5632, .f32⟩
  | 48 => ⟨S_, .f32⟩
  | 49 => ⟨S2x5632, .f32⟩
  | 50 => ⟨S1x5632, .f32⟩
  | 51 => ⟨S5632, .f32⟩
  | 52 => ⟨S8192x5632, .f32⟩
  | 53 => ⟨S1x5632, .f32⟩
  | 54 => ⟨S8192x5632, .f32⟩
  | 55 => ⟨S8192x5632, .f32⟩
  | 56 => ⟨S_, .f32⟩
  | 57 => ⟨S8192x5632, .f32⟩
  | 58 => ⟨S8192x5632, .f32⟩
  | 59 => ⟨S1x5632, .f32⟩
  | 60 => ⟨S5632, .f32⟩
  | 61 => ⟨S8192x5632, .f32⟩
  | 62 => ⟨S1x5632, .f32⟩
  | 63 => ⟨S8192x5632, .f32⟩
  | 64 => ⟨S8192x5632, .f32⟩
  | 65 => ⟨S8192x5632, .f32⟩
  | 66 => ⟨S1x5632, .f32⟩
  | 67 => ⟨S5632, .f32⟩
  | 68 => ⟨S8192x5632, .f32⟩
  | 69 => ⟨S1x5632, .f32⟩
  | 70 => ⟨S8192x5632, .f32⟩
  | 71 => ⟨S8192x5632, .f32⟩
  | 72 => ⟨S8192x5632, .f32⟩
  | 73 => ⟨S8192x2816, .f32⟩
  | 74 => ⟨S8192x2816, .f32⟩
  | 75 => ⟨S8192x2816, .f32⟩
  | 76 => ⟨S8192x2816, .f32⟩
  | 77 => ⟨S_, .f32⟩
  | 78 => ⟨S8192x2816, .f32⟩
  | 79 => ⟨S8192x2816, .f32⟩
  | 80 => ⟨S_, .f32⟩
  | 81 => ⟨S8192x2816, .f32⟩
  | 82 => ⟨S8192x2816, .f32⟩
  | 83 => ⟨S_, .f32⟩
  | 84 => ⟨S8192x2816, .f32⟩
  | 85 => ⟨S8192x2816, .f32⟩
  | 86 => ⟨S8192x2816, .f32⟩
  | 87 => ⟨S8192x2816, .f32⟩
  | 88 => ⟨S8192x2816, .f32⟩
  | 89 => ⟨S8192x1024, .f32⟩
  | 90 => ⟨S8192x1024, .f32⟩
  | 91 => ⟨S8192x1024, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192x1, .f32⟩
  | 100 => ⟨S8192x1, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x1024, .f32⟩
  | 107 => ⟨S8192x1024, .f32⟩
  | 108 => ⟨S1x1024, .f32⟩
  | 109 => ⟨S8192x1024, .f32⟩
  | 110 => ⟨S8192x1024, .f32⟩
  | 111 => ⟨S1x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S_, .f32⟩
  | 123 => ⟨S1024, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S1024, .f32⟩
  | 4 => ⟨S8192x1024, .f32⟩
  | 5 => ⟨S_, .f32⟩
  | 6 => ⟨S8192, .f32⟩
  | 7 => ⟨S8192x1, .f32⟩
  | 8 => ⟨S8192x1024, .f32⟩
  | 9 => ⟨S8192x1024, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x2816, .f32⟩
  | 22 => ⟨S8192x2816, .f32⟩
  | 23 => ⟨S8192x2816, .f32⟩
  | 24 => ⟨S8192x2816, .f32⟩
  | 25 => ⟨S8192x2816, .f32⟩
  | 26 => ⟨S8192x2816, .f32⟩
  | 27 => ⟨S8192x2816, .f32⟩
  | 28 => ⟨S8192x5632, .f32⟩
  | 29 => ⟨S8192x5632, .f32⟩
  | 30 => ⟨S8192x5632, .f32⟩
  | 31 => ⟨S8192x5632, .f32⟩
  | 32 => ⟨S_, .f32⟩
  | 33 => ⟨S5632, .f32⟩
  | 34 => ⟨S1x5632, .f32⟩
  | 35 => ⟨S_, .f32⟩
  | 36 => ⟨S5632, .f32⟩
  | 37 => ⟨S_, .f32⟩
  | 38 => ⟨S8194x5632, .f32⟩
  | 39 => ⟨S1x5632, .f32⟩
  | 40 => ⟨S_, .f32⟩
  | 41 => ⟨S3x5632, .f32⟩
  | 42 => ⟨S8192x5632, .f32⟩
  | 43 => ⟨S8192x5632, .f32⟩
  | 44 => ⟨S8192x5632, .f32⟩
  | 45 => ⟨S_, .f32⟩
  | 46 => ⟨S5632, .f32⟩
  | 47 => ⟨S1x5632, .f32⟩
  | 48 => ⟨S_, .f32⟩
  | 49 => ⟨S5632, .f32⟩
  | 50 => ⟨S_, .f32⟩
  | 51 => ⟨S8194x5632, .f32⟩
  | 52 => ⟨S8194x5632, .f32⟩
  | 53 => ⟨S1x5632, .f32⟩
  | 54 => ⟨S_, .f32⟩
  | 55 => ⟨S3x5632, .f32⟩
  | 56 => ⟨S3x5632, .f32⟩
  | 57 => ⟨S8192x5632, .f32⟩
  | 58 => ⟨S8192x5632, .f32⟩
  | 59 => ⟨S8192x5632, .f32⟩
  | 60 => ⟨S_, .f32⟩
  | 61 => ⟨S5632, .f32⟩
  | 62 => ⟨S1x5632, .f32⟩
  | 63 => ⟨S_, .f32⟩
  | 64 => ⟨S5632, .f32⟩
  | 65 => ⟨S_, .f32⟩
  | 66 => ⟨S8194x5632, .f32⟩
  | 67 => ⟨S8194x5632, .f32⟩
  | 68 => ⟨S1x5632, .f32⟩
  | 69 => ⟨S_, .f32⟩
  | 70 => ⟨S3x5632, .f32⟩
  | 71 => ⟨S3x5632, .f32⟩
  | 72 => ⟨S2x5632, .f32⟩
  | 73 => ⟨S8192x5632, .f32⟩
  | 74 => ⟨S8192x1024, .f32⟩
  | 75 => ⟨S_, .f32⟩
  | 76 => ⟨S1024, .f32⟩
  | 77 => ⟨S1x1024, .f32⟩
  | 78 => ⟨S_, .f32⟩
  | 79 => ⟨S1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S_, .f32⟩
  | 87 => ⟨S1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1024, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S5x1024, .f32⟩
  | 120 => ⟨S_, .f32⟩
  | 121 => ⟨S3x1024, .f32⟩
  | 122 => ⟨S8x1024, .f32⟩
  | 123 => ⟨S8192x4x1408, .f32⟩
  | 124 => ⟨S4x8192x1408, .f32⟩
  | 125 => ⟨S4x8192x1408, .bf16⟩
  | 126 => ⟨S8192x1024, .bf16⟩
  | 127 => ⟨S_, .f32⟩
  | _ => ⟨S8192x1024, .f32⟩

abbrev hbmTy0_2 (i : Nat) : BufTy := match i % 128 with
  | 0 => ⟨S5x5632, .f32⟩
  | 1 => ⟨S8x5632, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_v55_2 : Ref sig .tc := ⟨.hbm, 82, rfl⟩
abbrev main_call0_cst_1 : Ref sig .tc := ⟨.hbm, 83, rfl⟩
abbrev main_call0_v6 : Ref sig .tc := ⟨.hbm, 84, rfl⟩
abbrev main_call0_v7 : Ref sig .tc := ⟨.hbm, 85, rfl⟩
abbrev main_v55_1 : Ref sig .tc := ⟨.hbm, 86, rfl⟩
abbrev main_v55_0 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_9 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_v63 : Ref sig .tc := ⟨.hbm, 97, rfl⟩
abbrev main_cst_11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_13 : Ref sig .tc := ⟨.hbm, 119, rfl⟩
abbrev main_v83 : Ref sig .tc := ⟨.hbm, 120, rfl⟩
abbrev main_v84 : Ref sig .tc := ⟨.hbm, 121, rfl⟩
abbrev main_cst_14 : Ref sig .tc := ⟨.hbm, 122, rfl⟩
abbrev main_v85 : Ref sig .tc := ⟨.hbm, 123, rfl⟩
abbrev main_v86 : Ref sig .tc := ⟨.hbm, 124, rfl⟩
abbrev main_cst_15 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_16 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_18 : Ref sig .tc := ⟨.hbm, 139, rfl⟩
abbrev main_v98 : Ref sig .tc := ⟨.hbm, 140, rfl⟩
abbrev main_v99 : Ref sig .tc := ⟨.hbm, 141, rfl⟩
abbrev main_cst_19 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_call1_v0 : Ref sig .tc := ⟨.hbm, 152, rfl⟩
abbrev main_call1_v1 : Ref sig .tc := ⟨.hbm, 153, rfl⟩
abbrev main_call1_v2 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_20 : Ref sig .tc := ⟨.hbm, 160, rfl⟩
abbrev main_v114 : Ref sig .tc := ⟨.hbm, 161, rfl⟩
abbrev main_v115 : Ref sig .tc := ⟨.hbm, 162, rfl⟩
abbrev main_cst_21 : Ref sig .tc := ⟨.hbm, 163, rfl⟩
abbrev main_v116 : Ref sig .tc := ⟨.hbm, 164, rfl⟩
abbrev main_cst_22 : Ref sig .tc := ⟨.hbm, 165, rfl⟩
abbrev main_v117 : Ref sig .tc := ⟨.hbm, 166, rfl⟩
abbrev main_v118 : Ref sig .tc := ⟨.hbm, 167, rfl⟩
abbrev main_cst_23 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_24 : Ref sig .tc := ⟨.hbm, 173, rfl⟩
abbrev main_v123 : Ref sig .tc := ⟨.hbm, 174, rfl⟩
abbrev main_v124 : Ref sig .tc := ⟨.hbm, 175, rfl⟩
abbrev main_cst_25 : Ref sig .tc := ⟨.hbm, 176, rfl⟩
abbrev main_v125 : Ref sig .tc := ⟨.hbm, 177, rfl⟩
abbrev main_cst_26 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_27 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_28 : Ref sig .tc := ⟨.hbm, 188, rfl⟩
abbrev main_v134 : Ref sig .tc := ⟨.hbm, 189, rfl⟩
abbrev main_v135 : Ref sig .tc := ⟨.hbm, 190, rfl⟩
abbrev main_cst_29 : Ref sig .tc := ⟨.hbm, 191, rfl⟩
abbrev main_v136 : Ref sig .tc := ⟨.hbm, 192, rfl⟩
abbrev main_cst_30 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_31 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_32 : Ref sig .tc := ⟨.hbm, 203, rfl⟩
abbrev main_v145 : Ref sig .tc := ⟨.hbm, 204, rfl⟩
abbrev main_v146 : Ref sig .tc := ⟨.hbm, 205, rfl⟩
abbrev main_cst_33 : Ref sig .tc := ⟨.hbm, 206, rfl⟩
abbrev main_v147 : Ref sig .tc := ⟨.hbm, 207, rfl⟩
abbrev main_v148 : Ref sig .tc := ⟨.hbm, 208, rfl⟩
abbrev main_cst_34 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_35 : Ref sig .tc := ⟨.hbm, 214, rfl⟩
abbrev main_v153 : Ref sig .tc := ⟨.hbm, 215, rfl⟩
abbrev main_v154 : Ref sig .tc := ⟨.hbm, 216, rfl⟩
abbrev main_cst_36 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_cst_37 : Ref sig .tc := ⟨.hbm, 222, rfl⟩
abbrev main_v159 : Ref sig .tc := ⟨.hbm, 223, rfl⟩
abbrev main_v160 : Ref sig .tc := ⟨.hbm, 224, rfl⟩
abbrev main_cst_38 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_cst_39 : Ref sig .tc := ⟨.hbm, 232, rfl⟩
abbrev main_v167 : Ref sig .tc := ⟨.hbm, 233, rfl⟩
abbrev main_v168 : Ref sig .tc := ⟨.hbm, 234, rfl⟩
abbrev main_cst_40 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_cst_41 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_cst_42 : Ref sig .tc := ⟨.hbm, 255, rfl⟩
abbrev main_v187 : Ref sig .tc := ⟨.hbm, 256, rfl⟩
abbrev main_v188 : Ref sig .tc := ⟨.hbm, 257, rfl⟩

abbrev nD : Nat := 1
abbrev τ : Topo := Topo.v7x

variable {F : FTy → Type} [FloatOps F]
-- ==== KernelUp.lean ====
abbrev S1x8192x1024 : Shape := ⟨3, ![1, 8192, 1024]⟩
abbrev S4x8192x1408 : Shape := ⟨3, ![4, 8192, 1408]⟩
abbrev S4x1024x1408 : Shape := ⟨3, ![4, 1024, 1408]⟩
abbrev S1x2048x1024 : Shape := ⟨3, ![1, 2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1024 : Shape := ⟨2, ![2048, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S1x8192x1024, .bf16⟩
  | .hbm, ⟨1, _⟩ => ⟨S4x8192x1408, .bf16⟩
  | .hbm, ⟨2, _⟩ => ⟨S4x1024x1408, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceUpIdeal.lean ====
abbrev S1x8192x1024 : Shape := ⟨3, ![1, 8192, 1024]⟩
abbrev S4x8192x1408 : Shape := ⟨3, ![4, 8192, 1408]⟩
abbrev S8192x4x1408 : Shape := ⟨3, ![8192, 4, 1408]⟩
abbrev S8192x5632 : Shape := ⟨2, ![8192, 5632]⟩
abbrev S_ : Shape := ⟨0, ![]⟩
abbrev S1024x5632 : Shape := ⟨2, ![1024, 5632]⟩
abbrev S8192x1024 : Shape := ⟨2, ![8192, 1024]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S1x8192x1024, .bf16⟩
  | .hbm, ⟨1, _⟩ => ⟨S4x8192x1408, .bf16⟩
  | .hbm, ⟨2, _⟩ => ⟨S4x8192x1408, .f32⟩
  | .hbm, ⟨3, _⟩ => ⟨S8192x4x1408, .f32⟩
  | .hbm, ⟨4, _⟩ => ⟨S8192x5632, .f32⟩
  | .hbm, ⟨5, _⟩ => ⟨S_, .f32⟩
  | .hbm, ⟨6, _⟩ => ⟨S1024x5632, .f32⟩
  | .hbm, ⟨7, _⟩ => ⟨S8192x1024, .bf16⟩
  | .hbm, ⟨8, _⟩ => ⟨S8192x1024, .f32⟩
  | .hbm, ⟨9, _⟩ => ⟨S8192x5632, .f32⟩
  | .hbm, ⟨10, _⟩ => ⟨S5632x1024, .f32⟩
  | .hbm, ⟨11, _⟩ => ⟨S1024x5632, .f32⟩
  | .hbm, ⟨12, _⟩ => ⟨S1024x4x1408, .f32⟩
  | .hbm, ⟨13, _⟩ => ⟨S4x1024x1408, .f32⟩
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelDown.lean ====
abbrev S2x8192x1408 : Shape := ⟨3, ![2, 8192, 1408]⟩
abbrev S1x8192x1024 : Shape := ⟨3, ![1, 8192, 1024]⟩
abbrev S2x1408x1024 : Shape := ⟨3, ![2, 1408, 1024]⟩
abbrev S1x2048x1408 : Shape := ⟨3, ![1, 2048, 1408]⟩
abbrev S1x2048x1024 : Shape := ⟨3, ![1, 2048, 1024]⟩
abbrev S1x1408x1024 : Shape := ⟨3, ![1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x1408, .bf16⟩
  | .hbm, ⟨1, _⟩ => ⟨S1x8192x1024, .bf16⟩
  | .hbm, ⟨2, _⟩ => ⟨S2x1408x1024, .f32⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .f32⟩
  | .local _ .vmem, ⟨5, _⟩ => ⟨S1x1408x1024, .f32⟩
  | _, _ => ⟨S2x8192x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDownIdeal.lean ====
abbrev S2x8192x1408 : Shape := ⟨3, ![2, 8192, 1408]⟩
abbrev S1x8192x1024 : Shape := ⟨3, ![1, 8192, 1024]⟩
abbrev S_ : Shape := ⟨0, ![]⟩
abbrev S2816x1024 : Shape := ⟨2, ![2816, 1024]⟩
abbrev S8192x2x1408 : Shape := ⟨3, ![8192, 2, 1408]⟩
abbrev S8192x2816 : Shape := ⟨2, ![8192, 2816]⟩
abbrev S8192x1024 : Shape := ⟨2, ![8192, 1024]⟩
abbrev S1024x2816 : Shape := ⟨2, ![1024, 2816]⟩
abbrev S2x1408x1024 : Shape := ⟨3, ![2, 1408, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x1408, .bf16⟩
  | .hbm, ⟨1, _⟩ => ⟨S1x8192x1024, .bf16⟩
  | .hbm, ⟨2, _⟩ => ⟨S_, .f32⟩
  | .hbm, ⟨3, _⟩ => ⟨S2816x1024, .f32⟩
  | .hbm, ⟨4, _⟩ => ⟨S2x8192x1408, .f32⟩
  | .hbm, ⟨5, _⟩ => ⟨S8192x2x1408, .f32⟩
  | .hbm, ⟨6, _⟩ => ⟨S8192x2816, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S1024x2816, .f32⟩
  | .hbm, ⟨11, _⟩ => ⟨S2816x1024, .f32⟩
  | .hbm, ⟨12, _⟩ => ⟨S2x1408x1024, .f32⟩
  | _, _ => ⟨S2x8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelMix.lean ====
abbrev S1x8192x1024 : Shape := ⟨3, ![1, 8192, 1024]⟩
abbrev S4x8192x512 : Shape := ⟨3, ![4, 8192, 512]⟩
abbrev S4x1024x512 : Shape := ⟨3, ![4, 1024, 512]⟩
abbrev S1x2048x1024 : Shape := ⟨3, ![1, 2048, 1024]⟩
abbrev S1x2048x512 : Shape := ⟨3, ![1, 2048, 512]⟩
abbrev S1x1024x512 : Shape := ⟨3, ![1, 1024, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S1x8192x1024, .bf16⟩
  | .hbm, ⟨1, _⟩ => ⟨S4x8192x512, .bf16⟩
  | .hbm, ⟨2, _⟩ => ⟨S4x1024x512, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceMixIdeal.lean ====
abbrev S1x8192x1024 : Shape := ⟨3, ![1, 8192, 1024]⟩
abbrev S4x8192x512 : Shape := ⟨3, ![4, 8192, 512]⟩
abbrev S8192x4x512 : Shape := ⟨3, ![8192, 4, 512]⟩
abbrev S8192x2048 : Shape := ⟨2, ![8192, 2048]⟩
abbrev S_ : Shape := ⟨0, ![]⟩
abbrev S1024x2048 : Shape := ⟨2, ![1024, 2048]⟩
abbrev S8192x1024 : Shape := ⟨2, ![8192, 1024]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S1x8192x1024, .bf16⟩
  | .hbm, ⟨1, _⟩ => ⟨S4x8192x512, .bf16⟩
  | .hbm, ⟨2, _⟩ => ⟨S4x8192x512, .f32⟩
  | .hbm, ⟨3, _⟩ => ⟨S8192x4x512, .f32⟩
  | .hbm, ⟨4, _⟩ => ⟨S8192x2048, .f32⟩
  | .hbm, ⟨5, _⟩ => ⟨S_, .f32⟩
  | .hbm, ⟨6, _⟩ => ⟨S1024x2048, .f32⟩
  | .hbm, ⟨7, _⟩ => ⟨S8192x1024, .bf16⟩
  | .hbm, ⟨8, _⟩ => ⟨S8192x1024, .f32⟩
  | .hbm, ⟨9, _⟩ => ⟨S8192x2048, .f32⟩
  | .hbm, ⟨10, _⟩ => ⟨S2048x1024, .f32⟩
  | .hbm, ⟨11, _⟩ => ⟨S1024x2048, .f32⟩
  | .hbm, ⟨12, _⟩ => ⟨S1024x4x512, .f32⟩
  | .hbm, ⟨13, _⟩ => ⟨S4x1024x512, .f32⟩
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelLast.lean ====
abbrev S1x8192x1024 : Shape := ⟨3, ![1, 8192, 1024]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x1024, .bf16⟩
  | .hbm, ⟨2, _⟩ => ⟨S1x1024x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceLastIdeal.lean ====
abbrev S1x8192x1024 : Shape := ⟨3, ![1, 8192, 1024]⟩
abbrev S_ : Shape := ⟨0, ![]⟩
abbrev S1024x1024 : Shape := ⟨2, ![1024, 1024]⟩
abbrev S8192x1024 : Shape := ⟨2, ![8192, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x1024, .bf16⟩
  | .hbm, ⟨2, _⟩ => ⟨S_, .f32⟩
  | .hbm, ⟨3, _⟩ => ⟨S1024x1024, .f32⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Bwd.Base.lean ====
/- The grid points of the `ffn_backward` call: the branch at the first point, the staging buffers a point is handed, and
   the kernel's body at any point as the body at one fixed point, after the first point's three zero stores where it is
   the first. -/
module

public import proofs.«01_k».proof.Proof.Gen.KernelIdeal.Frame
public import proofs.«01_k».proof.Proof.Gen.KernelIdeal.Skeleton

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition "this is the first grid step". -/
abbrev isFirst (i : grid0.Coords) : Prop := (Scalar.cmpi .ne (Scalar.extui (Scalar.cmpi .eq (BitVec.ofNat 32 (i 0).val) 0#32)) 0#32) = 1#1

theorem isFirst_iff (t : Fin cfg0.N) : isFirst (grid0.coords t) ↔ t.val = 0 := by
  have ht : t.val < 32 := Nat.lt_of_lt_of_eq t.isLt N_0
  have e0 : (grid0.coords t 0).val = t.val / 1 % 32 := Pipeline.Grid.coords_val t 0 (by decide) rfl
  have : isFirst (grid0.coords t) ↔ t.val % 32 = 0 := by
    simp only [isFirst, e0]
    word_cmp
  rw [this]; omega

/-- A point that is not the first: the second. -/
def second : grid0.Coords := grid0.coords ⟨1, by rw [show grid0.N = 32 from N_0]; omega⟩

theorem second_not_first : ¬ isFirst second := fun h => absurd ((isFirst_iff _).mp h) (by decide)

/-! Each window's staging buffer at point `t`. -/
abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x256x1408 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x256x1408 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x1024x1408 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S3x5632 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x1408x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S4x256x1408 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x1024 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S8x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S8x5632 .f32 := win0_13.stage (cfg0.slots t 13)
abbrev hs13 (t : Fin cfg0.N) : (ms13 t).IsWhole := hstage0_13 ((cfg0.slots t 13).cast nbuf0_13)

/-! The call's scratch: the carried rows of the convolution's gradient, and the two product scratches. -/
abbrev scCarry : Memref sig .tc .vmem S4x16x1408 .f32 := Memref.whole cc0_scratch0
abbrev scDu : Memref sig .tc .vmem S2x256x512 .f32 := Memref.whole cc0_scratch1
abbrev scDh : Memref sig .tc .vmem S256x1024 .f32 := Memref.whole cc0_scratch2

/-- What the launch hands the region, with the scratch as buffers owned at some contents. -/
theorem PhiA_eq (c : Dev nD) :
    (Pipeline.ΦA spec0 c : sProp 𝕄)
      = iprop(iprop((∃ d, owns (c : Thread nD τ) scCarry fullShare d) ∗ (∃ d, owns (c : Thread nD τ) scDu fullShare d) ∗ (∃ d, owns (c : Thread nD τ) scDh fullShare d)) ∗ (∃ r, prngReg c r)) := by
  unfold Pipeline.ΦA; rw [scopedRest0_eq]; simp only [scCarry, scDu, scDh, owns_whole]; try rfl

section Body

variable (i j : grid0.Coords) (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S4x256x1408 .bf16) (harg4 : arg4.IsWhole)
  (arg5 : Memref sig .tc .vmem S4x256x1408 .bf16) (harg5 : arg5.IsWhole)
  (arg6 : Memref sig .tc .vmem S8x1024 .f32) (harg6 : arg6.IsWhole)
  (arg7 : Memref sig .tc .vmem S4x1024x1408 .bf16) (harg7 : arg7.IsWhole)
  (arg8 : Memref sig .tc .vmem S3x5632 .f32) (harg8 : arg8.IsWhole)
  (arg9 : Memref sig .tc .vmem S2x1408x1024 .bf16) (harg9 : arg9.IsWhole)
  (arg10 : Memref sig .tc .vmem S256x1024 .f32) (harg10 : arg10.IsWhole)
  (arg11 : Memref sig .tc .vmem S4x256x1408 .bf16) (harg11 : arg11.IsWhole)
  (arg12 : Memref sig .tc .vmem S256x1024 .bf16) (harg12 : arg12.IsWhole)
  (arg13 : Memref sig .tc .vmem S8x1024 .f32) (harg13 : arg13.IsWhole)
  (arg14 : Memref sig .tc .vmem S8x5632 .f32) (harg14 : arg14.IsWhole)
  (arg15 : Memref sig .tc .vmem S4x16x1408 .f32) (harg15 : arg15.IsWhole)
  (arg16 : Memref sig .tc .vmem S2x256x512 .f32) (harg16 : arg16.IsWhole)
  (arg17 : Memref sig .tc .vmem S256x1024 .f32) (harg17 : arg17.IsWhole)

/-- The first step's stores: zeros into the carried rows and into the two accumulated results. -/
def zeroStores : Prog (TpuEff nD τ sig (Elt F) Λ₀ .tc) PUnit := do
  let _ ← Prog.lift (.load arg15 (Rect.unit (s := S4x16x1408) ![0, 0, 0] S4x16x1408.size inb_S4x16x1408_S4x16x1408_0_0_0).toLoadRect (View.loadsAt_vmem h_S4x16x1408))
  Prog.lift (.store arg15 (Rect.unit (s := S4x16x1408) ![0, 0, 0] S4x16x1408.size inb_S4x16x1408_S4x16x1408_0_0_0) (k0_pay1 (F := F)) Finset.univ (View.stores_vmem_bits_univ h_S4x16x1408 rfl) (.inl rfl))
  let _ ← Prog.lift (.load arg13 (Rect.unit (s := S8x1024) ![0, 0] S8x1024.size inb_S8x1024_S8x1024_0_0).toLoadRect (View.loadsAt_vmem h_S8x1024))
  Prog.lift (.store arg13 (Rect.unit (s := S8x1024) ![0, 0] S8x1024.size inb_S8x1024_S8x1024_0_0) (k0_pay2 (F := F)) Finset.univ (View.stores_vmem_bits_univ h_S8x1024 rfl) (.inl rfl))
  let _ ← Prog.lift (.load arg14 (Rect.unit (s := S8x5632) ![0, 0] S8x5632.size inb_S8x5632_S8x5632_0_0).toLoadRect (View.loadsAt_vmem h_S8x5632))
  Prog.lift (.store arg14 (Rect.unit (s := S8x5632) ![0, 0] S8x5632.size inb_S8x5632_S8x5632_0_0) (k0_pay3 (F := F)) Finset.univ (View.stores_vmem_bits_univ h_S8x5632 rfl) (.inl rfl))

/-- Only the branch of the first part reads the grid point. -/
theorem body_rest (hi : ¬ isFirst i) (hj : ¬ isFirst j) :
    cc0_ffn_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = cc0_ffn_backward j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  rw [cc0_ffn_backward_eq_skeleton]
  unfold cc0_ffn_backward_skel
  rw [k0_part1_eq_skeleton]
  unfold k0_part1_skel
  simp only [dif_neg hi, dif_neg hj]
  rfl

/-- The first step's body is the zero stores, then the body of any other step. -/
theorem body_first (hi : isFirst i) (hj : ¬ isFirst j) :
    cc0_ffn_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (zeroStores arg13 arg14 arg15 >>= fun _ => cc0_ffn_backward j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  rw [cc0_ffn_backward_eq_skeleton]
  unfold cc0_ffn_backward_skel
  rw [k0_part1_eq_skeleton]
  unfold k0_part1_skel
  simp only [dif_pos hi, dif_neg hj]
  rfl

end Body

end Cert.KernelIdeal.Bwd

end

end
-- ==== Proof.Bwd.Run.lean ====
/- The run of the `ffn_backward` body at a step that is not the first: what its stores leave in each buffer, as pieces
   found by the run. -/
module

public import proofs.«01_k».proof.Proof.Bwd.Base

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S4x256x1408 .bf16) (harg4 : arg4.IsWhole)
  (arg5 : Memref sig .tc .vmem S4x256x1408 .bf16) (harg5 : arg5.IsWhole)
  (arg6 : Memref sig .tc .vmem S8x1024 .f32) (harg6 : arg6.IsWhole)
  (arg7 : Memref sig .tc .vmem S4x1024x1408 .bf16) (harg7 : arg7.IsWhole)
  (arg8 : Memref sig .tc .vmem S3x5632 .f32) (harg8 : arg8.IsWhole)
  (arg9 : Memref sig .tc .vmem S2x1408x1024 .bf16) (harg9 : arg9.IsWhole)
  (arg10 : Memref sig .tc .vmem S256x1024 .f32) (harg10 : arg10.IsWhole)
  (arg11 : Memref sig .tc .vmem S4x256x1408 .bf16) (harg11 : arg11.IsWhole)
  (arg12 : Memref sig .tc .vmem S256x1024 .bf16) (harg12 : arg12.IsWhole)
  (arg13 : Memref sig .tc .vmem S8x1024 .f32) (harg13 : arg13.IsWhole)
  (arg14 : Memref sig .tc .vmem S8x5632 .f32) (harg14 : arg14.IsWhole)
  (arg15 : Memref sig .tc .vmem S4x16x1408 .f32) (harg15 : arg15.IsWhole)
  (arg16 : Memref sig .tc .vmem S2x256x512 .f32) (harg16 : arg16.IsWhole)
  (arg17 : Memref sig .tc .vmem S256x1024 .f32) (harg17 : arg17.IsWhole)

-- (the run's proof term is large: the definition's epilogue walks it past the default budget)
set_option maxHeartbeats 1852000 in
/-- The body at a step that is not the first, on whole buffers: the inputs at their contents `x·`, the two accumulated results
    at what the step before left (`xo·`), the carried rows at `xs0`, everything else at anything. It runs to the end with the
    inputs as they were and the pieces `L·` written into the results and the scratch. -/
noncomputable def run (hi : ¬ isFirst i)
    (x0 : Vec F S256x1024 .f32) (x1 : Vec F S256x1024 .f32) (x2 : Vec F S256x1024 .f32) (x3 : Vec F S4x256x1408 .bf16) (x4 : Vec F S4x256x1408 .bf16) (x5 : Vec F S8x1024 .f32) (x6 : Vec F S4x1024x1408 .bf16) (x7 : Vec F S3x5632 .f32) (x8 : Vec F S2x1408x1024 .bf16) (xo12 : Vec F S8x1024 .f32) (xo13 : Vec F S8x5632 .f32) (xs0 : Vec F S4x16x1408 .f32) :
    Σ' (L9 : List (View.Piece (Elt F) S256x1024 .f32)), Σ' (L10 : List (View.Piece (Elt F) S4x256x1408 .bf16)), Σ' (L11 : List (View.Piece (Elt F) S256x1024 .bf16)), Σ' (L12 : List (View.Piece (Elt F) S8x1024 .f32)), Σ' (L13 : List (View.Piece (Elt F) S8x5632 .f32)), Σ' (LS0 : List (View.Piece (Elt F) S4x16x1408 .f32)), Σ' (LT1 : List (View.Piece (Elt F) S2x256x512 .f32)), { LT2 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo12 ∗ owns (c : Thread nD τ) arg14 fullShare xo13 ∗ owns (c : Thread nD τ) arg15 fullShare xs0 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread xo12) L12) ∗ (arg14.view.loc (c : Thread nD τ) ↦[arg14.view.set]{fullShare} arg14.view.writes (Elt F) (harg14.unread xo13) L13) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LT1) ∗ (∃ f, arg17.view.loc (c : Thread nD τ) ↦[arg17.view.set]{fullShare} arg17.view.writes (Elt F) f LT2)) -∗ K ⟨⟩))
          ⊢ wp frame (wpE (defs₀ (F := F)) Variants.none c none) E (cc0_ffn_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_ffn_backward_eq_skeleton]; unfold cc0_ffn_backward_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hf12; obtain rfl := harg14.eq_unread hf13; obtain rfl := harg15.eq_unread hfs0
    sl_exec (disch := first | sl_exact hi)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexact H12
    isplitl [H13]; · iexact H13
    isplitl [HS0]; · iexists _; iexact HS0
    isplitl [HS1]; · iexists _; iexact HS1
    iexists _; iexact HS2

end Cert.KernelIdeal.Bwd

end

end
-- ==== Proof.Bwd.Step.lean ====
/- One step of the `ffn_backward` call as a triple on whole buffers: what a step leaves in each result and in the carried
   rows, and the first step as the same step from zeros. -/
module

public import proofs.«01_k».proof.Proof.Bwd.Run
public import Idealize.ShloMosaic.Lib.Pipeline.Value

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What stores leave in a buffer that held `X`: the pieces, last first, laid over it. -/
def over {Val : EltTy → Type} {s : Shape} {e : EltTy} (X : s.Idx → Val e) : List (View.Piece Val s e) → s.Idx → Val e
  | [] => X
  | p :: L => p.1.overlay (over X L) p.2

theorem read_writes_over {Val : EltTy → Type} {s : Shape} {e : EltTy} {κ : Kind} {sp : Space} (v : View sig κ sp s e)
    (f : v.ty.Contents Val) : ∀ L : List (View.Piece Val s e), v.read Val (v.writes Val f L) = over (v.read Val f) L
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb, over]; exact (r.overlay_emb _ _ x).symm
    · have hy' : y ∉ Finset.univ.map p.1.emb := by rwa [Rect.map_emb_univ]
      rw [View.writes_cons, View.read_slice_write_of_not_mem p.1 _ _ _ hy', read_writes_over v f L, over]
      exact (p.1.overlay_of_not_mem _ _ hy).symm

/-- One store of the whole buffer leaves its payload. -/
theorem wholeStore {Val : EltTy → Type} [∀ e, Nonempty (Val e)] {s : Shape} {e : EltTy} {κ : Kind} {sp : Space} (v : View sig κ sp s e)
    (f : v.ty.Contents Val) {off : Fin s.rank → Nat} (h : off = fun _ => 0) (inb : ∀ a, off a + s.size a ≤ s.size a)
    (w : s.Idx → Val e) : v.read Val (v.writes Val f [⟨Rect.unit off s.size inb, w⟩]) = w :=
  (View.read_writes_eq_canon v f _ fun y => ⟨_, List.mem_singleton_self _, View.mem_set_unit_zero h inb y⟩).trans
    (View.canon_unit_zero h inb w)

/-- The zero stores, run: the two accumulated results and the carried rows at zeros. -/
theorem zeroStores_run (c : Dev nD) (arg13 : Memref sig .tc .vmem S8x1024 .f32) (arg14 : Memref sig .tc .vmem S8x5632 .f32)
    (arg15 : Memref sig .tc .vmem S4x16x1408 .f32) (E : Set ℕ) (k : PUnit → Prog (TpuEff nD τ sig (Elt F) Λ₀ .tc) PUnit) (K : PUnit → sProp 𝕄) :
    iprop((∃ d, owns (c : Thread nD τ) arg13 fullShare d) ∗ (∃ d, owns (c : Thread nD τ) arg14 fullShare d) ∗ (∃ d, owns (c : Thread nD τ) arg15 fullShare d)
        ∗ (iprop(owns (c : Thread nD τ) arg13 fullShare (k0_pay2 (F := F)) ∗ owns (c : Thread nD τ) arg14 fullShare (k0_pay3 (F := F)) ∗ owns (c : Thread nD τ) arg15 fullShare (k0_pay1 (F := F)))
          -∗ wp frame (wpE (defs₀ (F := F)) Variants.none c none) E (k ⟨⟩) K))
      ⊢ wp frame (wpE (defs₀ (F := F)) Variants.none c none) E (zeroStores arg13 arg14 arg15 >>= k) K := by
  unfold zeroStores owns
  iintro ⟨⟨%d12, %f12, -, H12⟩, ⟨%d13, %f13, -, H13⟩, ⟨%ds0, %fs0, -, HS0⟩, Hk⟩
  sl_exec
  iapply Hk
  isplitl [H12]
  · iexists _; isplitr
    swap; · iexact H12
    ipureintro; exact wholeStore _ _ (by funext a; fin_cases a <;> rfl) _ _
  isplitl [H13]
  · iexists _; isplitr
    swap; · iexact H13
    ipureintro; exact wholeStore _ _ (by funext a; fin_cases a <;> rfl) _ _
  iexists _; isplitr
  swap; · iexact HS0
  ipureintro; exact wholeStore _ _ (by funext a; fin_cases a <;> rfl) _ _

section Step

variable (c : Dev nD) (i j : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S4x256x1408 .bf16) (harg4 : arg4.IsWhole)
  (arg5 : Memref sig .tc .vmem S4x256x1408 .bf16) (harg5 : arg5.IsWhole)
  (arg6 : Memref sig .tc .vmem S8x1024 .f32) (harg6 : arg6.IsWhole)
  (arg7 : Memref sig .tc .vmem S4x1024x1408 .bf16) (harg7 : arg7.IsWhole)
  (arg8 : Memref sig .tc .vmem S3x5632 .f32) (harg8 : arg8.IsWhole)
  (arg9 : Memref sig .tc .vmem S2x1408x1024 .bf16) (harg9 : arg9.IsWhole)
  (arg10 : Memref sig .tc .vmem S256x1024 .f32) (harg10 : arg10.IsWhole)
  (arg11 : Memref sig .tc .vmem S4x256x1408 .bf16) (harg11 : arg11.IsWhole)
  (arg12 : Memref sig .tc .vmem S256x1024 .bf16) (harg12 : arg12.IsWhole)
  (arg13 : Memref sig .tc .vmem S8x1024 .f32) (harg13 : arg13.IsWhole)
  (arg14 : Memref sig .tc .vmem S8x5632 .f32) (harg14 : arg14.IsWhole)
  (arg15 : Memref sig .tc .vmem S4x16x1408 .f32) (harg15 : arg15.IsWhole)
  (arg16 : Memref sig .tc .vmem S2x256x512 .f32) (harg16 : arg16.IsWhole)
  (arg17 : Memref sig .tc .vmem S256x1024 .f32) (harg17 : arg17.IsWhole)
  (hi : ¬ isFirst i)
  (x0 : Vec F S256x1024 .f32) (x1 : Vec F S256x1024 .f32) (x2 : Vec F S256x1024 .f32) (x3 : Vec F S4x256x1408 .bf16) (x4 : Vec F S4x256x1408 .bf16) (x5 : Vec F S8x1024 .f32) (x6 : Vec F S4x1024x1408 .bf16) (x7 : Vec F S3x5632 .f32) (x8 : Vec F S2x1408x1024 .bf16) (xo12 : Vec F S8x1024 .f32) (xo13 : Vec F S8x5632 .f32) (xs0 : Vec F S4x16x1408 .f32)

/-! What a step leaves: the gradient of its rows, the convolution's input gradient, `dy`, the two accumulated results, the
carried rows. -/

def dxOut : Vec F S256x1024 .f32 := View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).1
theorem dxOut_cover (y : S256x1024.Idx) : ∃ p ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).1, y ∈ p.1.set :=
  View.cover_of_tiledBy (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).1 ![256, 1024] (by sl_kernel_rfl) y

def daOut : Vec F S4x256x1408 .bf16 := View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.1
theorem daOut_cover (y : S4x256x1408.Idx) : ∃ p ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.1, y ∈ p.1.set :=
  View.cover_of_tiledBy (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.1 ![1, 256, 128] (by sl_kernel_rfl) y

def dyOut : Vec F S256x1024 .bf16 := View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.2.1
theorem dyOut_cover (y : S256x1024.Idx) : ∃ p ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.2.1, y ∈ p.1.set :=
  View.cover_of_tiledBy (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.2.1 ![256, 1024] (by sl_kernel_rfl) y

def sumOut : Vec F S8x1024 .f32 := over xo12 (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.2.2.1

def dwOut : Vec F S8x5632 .f32 := over xo13 (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.2.2.2.1

def carryOut : Vec F S4x16x1408 .f32 := View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.2.2.2.2.1
theorem carryOut_cover (y : S4x16x1408.Idx) : ∃ p ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.2.2.2.2.1, y ∈ p.1.set :=
  View.cover_of_tiledBy (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.2.2.2.2.1 ![1, 16, 128] (by sl_kernel_rfl) y

set_option maxHeartbeats 1600000 in
/-- One step, from what the step before left to what it leaves. -/
theorem step (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo12 ∗ owns (c : Thread nD τ) arg14 fullShare xo13 ∗ owns (c : Thread nD τ) arg15 fullShare xs0 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0) ∗ owns (c : Thread nD τ) arg11 fullShare (daOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0) ∗ owns (c : Thread nD τ) arg12 fullShare (dyOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0) ∗ owns (c : Thread nD τ) arg13 fullShare (sumOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0) ∗ owns (c : Thread nD τ) arg14 fullShare (dwOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0) ∗ owns (c : Thread nD τ) arg15 fullShare (carryOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0) ∗ (∃ d, owns (c : Thread nD τ) arg16 fullShare d) ∗ (∃ d, owns (c : Thread nD τ) arg17 fullShare d)) -∗ K ⟨⟩))
      ⊢ wp frame (wpE (defs₀ (F := F)) Variants.none c none) E (cc0_ffn_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H0, H1, H2, H3, H4, H5, H6, H7, H8, H9, H10, H11, H12, H13, HS0, HS1, HS2, Hk⟩
  iapply ((run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0).2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, H8, ⟨%e9, H9⟩, ⟨%e10, H10⟩, ⟨%e11, H11⟩, H12, H13, ⟨%es0, HS0⟩, ⟨%fT1, HS1⟩, ⟨%fT2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (dxOut_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0)
  isplitl [H10]
  · unfold owns; iexists _; isplitr
    swap; · iexact H10
    ipureintro; exact View.read_writes_eq_canon _ _ _ (daOut_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0)
  isplitl [H11]
  · unfold owns; iexists _; isplitr
    swap; · iexact H11
    ipureintro; exact View.read_writes_eq_canon _ _ _ (dyOut_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0)
  isplitl [H12]
  · unfold owns; iexists _; isplitr
    swap; · iexact H12
    ipureintro; unfold sumOut; rw [read_writes_over, harg13.read_unread]
  isplitl [H13]
  · unfold owns; iexists _; isplitr
    swap; · iexact H13
    ipureintro; unfold dwOut; rw [read_writes_over, harg14.read_unread]
  isplitl [HS0]
  · unfold owns; iexists _; isplitr
    swap; · iexact HS0
    ipureintro; exact View.read_writes_eq_canon _ _ _ (carryOut_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi x0 x1 x2 x3 x4 x5 x6 x7 x8 xo12 xo13 xs0)
  isplitl [HS1]
  · iexists _; unfold owns; iexists _; isplitr
    swap; · iexact HS1
    ipureintro; rfl
  iexists _; unfold owns; iexists _; isplitr
  swap; · iexact HS2
  ipureintro; rfl

omit hi xo12 xo13 xs0 in
set_option maxHeartbeats 1600000 in
/-- The first step: the step above from zeros, whatever the two accumulated results and the carried rows held. -/
theorem first (hi : isFirst i) (hj : ¬ isFirst j) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (dxOut c j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hj x0 x1 x2 x3 x4 x5 x6 x7 x8 (k0_pay2 (F := F)) (k0_pay3 (F := F)) (k0_pay1 (F := F))) ∗ owns (c : Thread nD τ) arg11 fullShare (daOut c j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hj x0 x1 x2 x3 x4 x5 x6 x7 x8 (k0_pay2 (F := F)) (k0_pay3 (F := F)) (k0_pay1 (F := F))) ∗ owns (c : Thread nD τ) arg12 fullShare (dyOut c j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hj x0 x1 x2 x3 x4 x5 x6 x7 x8 (k0_pay2 (F := F)) (k0_pay3 (F := F)) (k0_pay1 (F := F))) ∗ owns (c : Thread nD τ) arg13 fullShare (sumOut c j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hj x0 x1 x2 x3 x4 x5 x6 x7 x8 (k0_pay2 (F := F)) (k0_pay3 (F := F)) (k0_pay1 (F := F))) ∗ owns (c : Thread nD τ) arg14 fullShare (dwOut c j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hj x0 x1 x2 x3 x4 x5 x6 x7 x8 (k0_pay2 (F := F)) (k0_pay3 (F := F)) (k0_pay1 (F := F))) ∗ owns (c : Thread nD τ) arg15 fullShare (carryOut c j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hj x0 x1 x2 x3 x4 x5 x6 x7 x8 (k0_pay2 (F := F)) (k0_pay3 (F := F)) (k0_pay1 (F := F))) ∗ (∃ d, owns (c : Thread nD τ) arg16 fullShare d) ∗ (∃ d, owns (c : Thread nD τ) arg17 fullShare d)) -∗ K ⟨⟩))
      ⊢ wp frame (wpE (defs₀ (F := F)) Variants.none c none) E (cc0_ffn_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [body_first i j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi hj]
  iintro ⟨H0, H1, H2, H3, H4, H5, H6, H7, H8, H9, H10, H11, H12, H13, HS0, HS1, HS2, Hk⟩
  iapply (zeroStores_run c arg13 arg14 arg15 E (fun _ => cc0_ffn_backward (F := F) j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K)
  isplitl [H12]; · iexact H12
  isplitl [H13]; · iexact H13
  isplitl [HS0]; · iexact HS0
  iintro ⟨H12, H13, HS0⟩
  iapply (step c j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hj x0 x1 x2 x3 x4 x5 x6 x7 x8 (k0_pay2 (F := F)) (k0_pay3 (F := F)) (k0_pay1 (F := F)) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  iexact Hk

end Step

end Cert.KernelIdeal.Bwd

end

end
-- ==== Proof.Bwd.Data.lean ====
/- The `ffn_backward` call's proof data: what its results and the carried rows hold after each grid step, the body
   obligation, and the frame of @main. -/
module

public import proofs.«01_k».proof.Proof.Bwd.Step
public import Idealize.ShloMosaic.Lib.Claim

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one step at point `t`'s buffers and blocks leaves, of the two accumulated results and the carried rows it finds. -/
def stepAt (c : Dev nD) (t : Fin cfg0.N) (s : Vec F S8x1024 .f32) (w : Vec F S8x5632 .f32) (k : Vec F S4x16x1408 .f32) :
    Vec F S256x1024 .f32 × Vec F S4x256x1408 .bf16 × Vec F S256x1024 .bf16 × Vec F S8x1024 .f32 × Vec F S8x5632 .f32 × Vec F S4x16x1408 .f32 :=
  (dxOut c second (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scCarry (Memref.isWhole_whole _) scDu (Memref.isWhole_whole _) scDh (Memref.isWhole_whole _) second_not_first (iblk m c 0 t) (iblk m c 1 t) (iblk m c 2 t) (iblk m c 3 t) (iblk m c 4 t) (iblk m c 5 t) (iblk m c 6 t) (iblk m c 7 t) (iblk m c 8 t) s w k,
   daOut c second (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scCarry (Memref.isWhole_whole _) scDu (Memref.isWhole_whole _) scDh (Memref.isWhole_whole _) second_not_first (iblk m c 0 t) (iblk m c 1 t) (iblk m c 2 t) (iblk m c 3 t) (iblk m c 4 t) (iblk m c 5 t) (iblk m c 6 t) (iblk m c 7 t) (iblk m c 8 t) s w k,
   dyOut c second (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scCarry (Memref.isWhole_whole _) scDu (Memref.isWhole_whole _) scDh (Memref.isWhole_whole _) second_not_first (iblk m c 0 t) (iblk m c 1 t) (iblk m c 2 t) (iblk m c 3 t) (iblk m c 4 t) (iblk m c 5 t) (iblk m c 6 t) (iblk m c 7 t) (iblk m c 8 t) s w k,
   sumOut c second (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scCarry (Memref.isWhole_whole _) scDu (Memref.isWhole_whole _) scDh (Memref.isWhole_whole _) second_not_first (iblk m c 0 t) (iblk m c 1 t) (iblk m c 2 t) (iblk m c 3 t) (iblk m c 4 t) (iblk m c 5 t) (iblk m c 6 t) (iblk m c 7 t) (iblk m c 8 t) s w k,
   dwOut c second (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scCarry (Memref.isWhole_whole _) scDu (Memref.isWhole_whole _) scDh (Memref.isWhole_whole _) second_not_first (iblk m c 0 t) (iblk m c 1 t) (iblk m c 2 t) (iblk m c 3 t) (iblk m c 4 t) (iblk m c 5 t) (iblk m c 6 t) (iblk m c 7 t) (iblk m c 8 t) s w k,
   carryOut c second (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scCarry (Memref.isWhole_whole _) scDu (Memref.isWhole_whole _) scDh (Memref.isWhole_whole _) second_not_first (iblk m c 0 t) (iblk m c 1 t) (iblk m c 2 t) (iblk m c 3 t) (iblk m c 4 t) (iblk m c 5 t) (iblk m c 6 t) (iblk m c 7 t) (iblk m c 8 t) s w k)

/-- After each step: the results' buffers and the carried rows, the first step from zeros. -/
def after (c : Dev nD) : (n : ℕ) → n < cfg0.N →
    Vec F S256x1024 .f32 × Vec F S4x256x1408 .bf16 × Vec F S256x1024 .bf16 × Vec F S8x1024 .f32 × Vec F S8x5632 .f32 × Vec F S4x16x1408 .f32
  | 0, hn => stepAt m c ⟨0, hn⟩ k0_pay2 k0_pay3 k0_pay1
  | n + 1, hn => stepAt m c ⟨n + 1, hn⟩ (after c n (Nat.lt_of_succ_lt hn)).2.2.2.1 (after c n (Nat.lt_of_succ_lt hn)).2.2.2.2.1
      (after c n (Nat.lt_of_succ_lt hn)).2.2.2.2.2

theorem after_zero (c : Dev nD) (t : Fin cfg0.N) (h : t.val = 0) :
    after m c t.val t.isLt = stepAt m c t k0_pay2 k0_pay3 k0_pay1 := by
  obtain ⟨n, hn⟩ := t
  obtain rfl : n = 0 := h
  rfl

theorem after_pos (c : Dev nD) (t : Fin cfg0.N) (h : t.val ≠ 0) :
    after m c t.val t.isLt = stepAt m c t (after m c (t.val - 1) (Nat.lt_of_le_of_lt (Nat.sub_le _ _) t.isLt)).2.2.2.1
      (after m c (t.val - 1) (Nat.lt_of_le_of_lt (Nat.sub_le _ _) t.isLt)).2.2.2.2.1
      (after m c (t.val - 1) (Nat.lt_of_le_of_lt (Nat.sub_le _ _) t.isLt)).2.2.2.2.2 := by
  obtain ⟨n, hn⟩ := t
  cases n with
  | zero => exact absurd rfl h
  | succ n => rfl

/-- What holds between the steps: the scratch at anything before the first; afterwards the carried rows at what the step
    before left. -/
def inv (c : Dev nD) : (n : ℕ) → n ≤ cfg0.N → sProp 𝕄
  | 0, _ => Pipeline.ΦA spec0 c
  | n + 1, hn => iprop(iprop(owns (c : Thread nD τ) scCarry fullShare ((after m c n hn).2.2.2.2.2) ∗ (∃ d, owns (c : Thread nD τ) scDu fullShare d) ∗ (∃ d, owns (c : Thread nD τ) scDh fullShare d)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scCarry fullShare ((after m c n hn).2.2.2.2.2) ∗ (∃ d, owns (c : Thread nD τ) scDu fullShare d) ∗ (∃ d, owns (c : Thread nD τ) scDh fullShare d)) ∗ (∃ r, prngReg c r)) := rfl

theorem inv_pos (c : Dev nD) (n : ℕ) (h : n ≤ cfg0.N) (hz : n ≠ 0) :
    inv m c n h = iprop(iprop(owns (c : Thread nD τ) scCarry fullShare ((after m c (n - 1) (by omega)).2.2.2.2.2) ∗ (∃ d, owns (c : Thread nD τ) scDu fullShare d) ∗ (∃ d, owns (c : Thread nD τ) scDh fullShare d)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (after m c t.val t.isLt).1
    | ⟨10, _⟩ => (after m c t.val t.isLt).2.1
    | ⟨11, _⟩ => (after m c t.val t.isLt).2.2.1
    | ⟨12, _⟩ => (after m c t.val t.isLt).2.2.2.1
    | ⟨13, _⟩ => (after m c t.val t.isLt).2.2.2.2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

/-! What the body leaves in each window, and what it finds there. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (after m c t.val t.isLt).1 := by dsimp only [dats]
theorem after_10 (c : Dev nD) (t : Fin cfg0.N) : (dats m 0 c).after 10 t = (after m c t.val t.isLt).2.1 := by dsimp only [dats]
theorem after_11 (c : Dev nD) (t : Fin cfg0.N) : (dats m 0 c).after 11 t = (after m c t.val t.isLt).2.2.1 := by dsimp only [dats]
theorem after_12 (c : Dev nD) (t : Fin cfg0.N) : (dats m 0 c).after 12 t = (after m c t.val t.isLt).2.2.2.1 := by dsimp only [dats]
theorem after_13 (c : Dev nD) (t : Fin cfg0.N) : (dats m 0 c).after 13 t = (after m c t.val t.isLt).2.2.2.2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
/-- The accumulated result 12 is not written back between steps, so a step finds what the one before left. -/
theorem before_12 (c : Dev nD) (t : Fin cfg0.N) (h0 : t.val ≠ 0) (d) :
    (dats m 0 c).before 12 t d = (after m c (t.val - 1) (Nat.lt_of_le_of_lt (Nat.sub_le _ _) t.isLt)).2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
/-- The accumulated result 13 is not written back between steps, so a step finds what the one before left. -/
theorem before_13 (c : Dev nD) (t : Fin cfg0.N) (h0 : t.val ≠ 0) (d) :
    (dats m 0 c).before 13 t d = (after m c (t.val - 1) (Nat.lt_of_le_of_lt (Nat.sub_le _ _) t.isLt)).2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9, after_10, after_11, after_12, after_13]
  rw [show (dats m 0 c).Φ t.succ = inv m c (t.val + 1) t.isLt from rfl, inv_succ]
  by_cases hz : t.val = 0
  · rw [inv_castSucc m c t, inv_zero m c _ _ hz, PhiA_eq, after_zero m c t hz]
    unfold stepAt; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (first c (grid0.coords t) second (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scCarry (Memref.isWhole_whole _) scDu (Memref.isWhole_whole _) scDh (Memref.isWhole_whole _) (iblk m c 0 t) (iblk m c 1 t) (iblk m c 2 t) (iblk m c 3 t) (iblk m c 4 t) (iblk m c 5 t) (iblk m c 6 t) (iblk m c 7 t) (iblk m c 8 t) ((isFirst_iff t).mpr hz) second_not_first Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [inv_castSucc m c t, inv_pos m c _ _ hz, after_pos m c t hz]
    simp only [before_12 m c t hz, before_13 m c t hz]
    rw [body_rest (grid0.coords t) second (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scCarry (Memref.isWhole_whole _) scDu (Memref.isWhole_whole _) scDh (Memref.isWhole_whole _) (fun h => hz ((isFirst_iff t).mp h)) second_not_first]
    unfold stepAt; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (step c second (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scCarry (Memref.isWhole_whole _) scDu (Memref.isWhole_whole _) scDh (Memref.isWhole_whole _) second_not_first (iblk m c 0 t) (iblk m c 1 t) (iblk m c 2 t) (iblk m c 3 t) (iblk m c 4 t) (iblk m c 5 t) (iblk m c 6 t) (iblk m c 7 t) (iblk m c 8 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [H13]; · iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = inv m c t.val (Nat.le_of_lt_succ t.isLt) from rfl, inv_pos m c _ _ ht, PhiA_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, with each array of the pipeline at what the proof data computes. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Bwd

end

end
-- ==== Proof.Frames.lean ====
/- The frames: each program ends, its arguments end as they were and every counter at zero. The kernel as printed and
   the kernel without roundings are one text over two number types, so one run (Bwd/Data.lean) serves both. -/
module

public import proofs.«01_k».proof.Defs
public import proofs.«01_k».proof.Proof.Gen.Kernel
public import proofs.«01_k».proof.Proof.Gen.ReferenceIdeal.Run
public import proofs.«01_k».proof.Proof.Bwd.Data

@[expose] public section

noncomputable section

namespace Cert.Proof

open Idealize.ShloMosaic Idealize.SL.Sem

/-- The frame of the kernel without roundings, its text read over any float values. -/
def framed (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

/-- The kernel as printed has the same text, name for name. -/
theorem same_text : framed Bits = Cert.quiescent_Kernel := by sl_kernel_rfl

/-- The kernel over machine words. -/
theorem frame_kernel : Cert.quiescent_Kernel :=
  same_text ▸ fun m ρ _ => Cert.KernelIdeal.Bwd.frame (F := Bits) m ρ

/-- The kernel over the extended reals. -/
theorem frame_ideal : Cert.quiescent_KernelIdeal := fun m ρ _ => Cert.KernelIdeal.Bwd.frame (F := Ideal) m ρ

/-- The reference over the extended reals: operations on the host alone, and no semaphore is declared. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

end Cert.Proof

end
-- ==== Proof.Bwd.Lift.lean ====
/- Arrays of real numbers among arrays of extended reals: `up2 f` is the array whose element at (a, b) is the real number
   `f a b`. Each operation of a program, taken of such arrays, is again such an array; the lemmas here say which. With them
   `simp` turns a chain of operations into one function of natural coordinates, for the kernel, the host operations before
   it and the reference alike. -/
module

public import Idealize.ShloMosaic.Lib.Pipeline.Value
public import Idealize.ShloMosaic.Lib.MatmulPlain
public import Idealize.ShloMosaic.Lib.ValueIdx
public import Idealize.ShloMosaic.PureOps.Ideal.Laws

@[expose] public section

noncomputable section

namespace Cert.Lift

open Idealize.ShloMosaic Idealize.ShloMosaic.ValueIdx
open scoped BigOperators

/-- A vector of reals. -/
def up1 {n : ℕ} (f : ℕ → ℝ) : (⟨1, ![n]⟩ : Shape).Idx → EReal := fun i => ((f (i 0).val : ℝ) : EReal)
/-- A matrix of reals. -/
def up2 {m n : ℕ} (f : ℕ → ℕ → ℝ) : (⟨2, ![m, n]⟩ : Shape).Idx → EReal := fun i => ((f (i 0).val (i 1).val : ℝ) : EReal)
/-- A stack of matrices of reals. -/
def up3 {l m n : ℕ} (f : ℕ → ℕ → ℕ → ℝ) : (⟨3, ![l, m, n]⟩ : Shape).Idx → EReal :=
  fun i => ((f (i 0).val (i 1).val (i 2).val : ℝ) : EReal)

theorem up1_congr {n : ℕ} {f g : ℕ → ℝ} (h : ∀ a < n, f a = g a) : up1 (n := n) f = up1 g :=
  funext fun i => congrArg _ (h _ (i 0).isLt)
theorem up2_congr {m n : ℕ} {f g : ℕ → ℕ → ℝ} (h : ∀ a < m, ∀ b < n, f a b = g a b) : up2 (m := m) (n := n) f = up2 g :=
  funext fun i => congrArg _ (h _ (i 0).isLt _ (i 1).isLt)
theorem up3_congr {l m n : ℕ} {f g : ℕ → ℕ → ℕ → ℝ} (h : ∀ a < l, ∀ b < m, ∀ c < n, f a b c = g a b c) :
    up3 (l := l) (m := m) (n := n) f = up3 g :=
  funext fun i => congrArg _ (h _ (i 0).isLt _ (i 1).isLt _ (i 2).isLt)

/-! ## Element by element -/

section Elementwise
variable {φ : FTy} {k l m n : ℕ}

theorem mulf_up1 (f g : ℕ → ℝ) : mulf (F := Ideal) (φ := φ) (up1 (n := n) f) (up1 g) = up1 fun a => f a * g a :=
  funext fun _ => (EReal.coe_mul _ _).symm
theorem mulf_up2 (f g : ℕ → ℕ → ℝ) : mulf (F := Ideal) (φ := φ) (up2 (m := m) (n := n) f) (up2 g) = up2 fun a b => f a b * g a b :=
  funext fun _ => (EReal.coe_mul _ _).symm
theorem mulf_up3 (f g : ℕ → ℕ → ℕ → ℝ) :
    mulf (F := Ideal) (φ := φ) (up3 (l := l) (m := m) (n := n) f) (up3 g) = up3 fun a b c => f a b c * g a b c :=
  funext fun _ => (EReal.coe_mul _ _).symm
theorem addf_up1 (f g : ℕ → ℝ) : addf (F := Ideal) (φ := φ) (up1 (n := n) f) (up1 g) = up1 fun a => f a + g a :=
  funext fun _ => (EReal.coe_add _ _).symm
theorem addf_up2 (f g : ℕ → ℕ → ℝ) : addf (F := Ideal) (φ := φ) (up2 (m := m) (n := n) f) (up2 g) = up2 fun a b => f a b + g a b :=
  funext fun _ => (EReal.coe_add _ _).symm
theorem addf_up3 (f g : ℕ → ℕ → ℕ → ℝ) :
    addf (F := Ideal) (φ := φ) (up3 (l := l) (m := m) (n := n) f) (up3 g) = up3 fun a b c => f a b c + g a b c :=
  funext fun _ => (EReal.coe_add _ _).symm
theorem subf_up2 (f g : ℕ → ℕ → ℝ) : subf (F := Ideal) (φ := φ) (up2 (m := m) (n := n) f) (up2 g) = up2 fun a b => f a b - g a b :=
  funext fun _ => (EReal.coe_sub _ _).symm
theorem tanh_up2 (f : ℕ → ℕ → ℝ) : tanh (F := Ideal) (φ := φ) (up2 (m := m) (n := n) f) = up2 fun a b => Real.tanh (f a b) := rfl
theorem negf_up2 (f : ℕ → ℕ → ℝ) : Host.negf (F := Ideal) (φ := φ) (up2 (m := m) (n := n) f) = up2 fun a b => -f a b :=
  funext fun _ => (EReal.coe_neg _).symm
theorem exp_up2 (f : ℕ → ℕ → ℝ) : Host.exp (F := Ideal) (φ := φ) (up2 (m := m) (n := n) f) = up2 fun a b => Real.exp (f a b) := rfl
theorem div_real (x : ℝ) {y : ℝ} (h : y ≠ 0) : Ideal.div (x : EReal) (y : EReal) = ((x / y : ℝ) : EReal) :=
  (Ideal.div_coe h x).trans (by rw [← EReal.coe_mul, mul_one_div])
theorem divf_up2 (f g : ℕ → ℕ → ℝ) (hg : ∀ a b, g a b ≠ 0) :
    divf (F := Ideal) (φ := φ) (up2 (m := m) (n := n) f) (up2 g) = up2 fun a b => f a b / g a b :=
  funext fun _ => div_real _ (hg _ _)
theorem hostDivf_up2 (f g : ℕ → ℕ → ℝ) (hg : ∀ a b, g a b ≠ 0) :
    Host.divf (F := Ideal) (φ := φ) (up2 (m := m) (n := n) f) (up2 g) = up2 fun a b => f a b / g a b :=
  funext fun _ => div_real _ (hg _ _)

theorem rsqrt_real {r : ℝ} (h : 0 < r) : Ideal.rsqrt (r : EReal) = (((Real.sqrt r)⁻¹ : ℝ) : EReal) := by
  rw [Ideal.rsqrt_coe, if_neg h.not_gt, if_neg h.ne']
theorem rsqrt_up2 (f : ℕ → ℕ → ℝ) (hf : ∀ a b, 0 < f a b) :
    rsqrt (F := Ideal) (φ := φ) (up2 (m := m) (n := n) f) = up2 fun a b => (Real.sqrt (f a b))⁻¹ :=
  funext fun _ => rsqrt_real (hf _ _)
theorem hostRsqrt_up2 (f : ℕ → ℕ → ℝ) (hf : ∀ a b, 0 < f a b) :
    Host.rsqrt (F := Ideal) (φ := φ) (up2 (m := m) (n := n) f) = up2 fun a b => (Real.sqrt (f a b))⁻¹ :=
  funext fun _ => rsqrt_real (hf _ _)

end Elementwise

/-! ## The literals the programs name -/

/-- The real number an f32 word is. -/
def word (w : BitVec 32) : ℝ := (Ideal.ofBits .f32 w).toReal

/-- The small number under the square roots. -/
abbrev eps : ℝ := word 0x358637BD#32

theorem word_eq (w : BitVec 32) (h : (w.extractLsb' 23 8).toNat ≠ 255) : Ideal.ofBits .f32 w = ((word w : ℝ) : EReal) := by
  have : ∃ r : ℝ, Ideal.ofBits .f32 w = (r : EReal) := by
    show ∃ r : ℝ, Ideal.ieee 8 23 w = _
    unfold Ideal.ieee
    dsimp only
    rw [if_neg (by simpa using h)]
    split <;> exact ⟨_, rfl⟩
  obtain ⟨r, hr⟩ := this
  rw [word, hr, EReal.toReal_coe]
theorem word_zero : word 0x00000000#32 = 0 := by rw [word, Ideal.ofBits_zero_f32]; rfl
theorem word_one : word 0x3F800000#32 = 1 := by
  rw [word]; simp [Ideal.ofBits, Ideal.ieee, -EReal.coe_mul]; norm_num
theorem word_half : word 0x3F000000#32 = 1 / 2 := by
  rw [word]; simp [Ideal.ofBits, Ideal.ieee, -EReal.coe_mul]; norm_num
theorem word_neg_half : word 0xBF000000#32 = -(1 / 2) := by
  rw [word]; simp [Ideal.ofBits, Ideal.ieee, -EReal.coe_mul, -EReal.coe_neg]; norm_num
theorem word_1024 : word 0x44800000#32 = 1024 := by
  rw [word]; simp [Ideal.ofBits, Ideal.ieee, -EReal.coe_mul]; norm_num
theorem eps_pos : 0 < eps := by
  rw [eps, word]; simp [Ideal.ofBits, Ideal.ieee, -EReal.coe_mul]
end Cert.Lift
-- ==== Proof.Bwd.LiftShape.lean ====
/- Layout operations, sums and products of arrays of real numbers (Lift.lean): each is again an array of real numbers. -/
module

public import proofs.«01_k».proof.Proof.Bwd.Lift
public import Idealize.ShloMosaic.Lib.Pointwise.SelectCore

@[expose] public section

noncomputable section

namespace Cert.Lift

open Idealize.ShloMosaic
open scoped BigOperators

section Layout
variable {k l m n p q : ℕ}

/-! ## Constants and broadcasts -/

theorem constant_up1 (w : BitVec 32) (h : (w.extractLsb' 23 8).toNat ≠ 255) :
    constant (F := Ideal) ⟨1, ![n]⟩ .f32 w = up1 fun _ => word w := funext fun _ => word_eq w h
theorem constant_up2 (w : BitVec 32) (h : (w.extractLsb' 23 8).toNat ≠ 255) :
    constant (F := Ideal) ⟨2, ![m, n]⟩ .f32 w = up2 fun _ _ => word w := funext fun _ => word_eq w h
theorem constant_up3 (w : BitVec 32) (h : (w.extractLsb' 23 8).toNat ≠ 255) :
    constant (F := Ideal) ⟨3, ![l, m, n]⟩ .f32 w = up3 fun _ _ _ => word w := funext fun _ => word_eq w h
theorem broadcast_up2 (w : BitVec 32) (h : (w.extractLsb' 23 8).toNat ≠ 255) :
    broadcast ⟨2, ![m, n]⟩ (Scalar.ofBits .f32 w : Ideal .f32) = up2 fun _ _ => word w := funext fun _ => word_eq w h
/-- A rank-zero literal spread over a vector. -/
theorem spread_up1 (w : BitVec 32) (h : (w.extractLsb' 23 8).toNat ≠ 255) (d) (hb) :
    broadcastInDim ⟨1, ![n]⟩ d hb (constant (F := Ideal) ⟨0, ![]⟩ .f32 w) = up1 fun _ => word w := funext fun _ => word_eq w h
theorem spread_up2 (w : BitVec 32) (h : (w.extractLsb' 23 8).toNat ≠ 255) (d) (hb) :
    broadcastInDim ⟨2, ![m, n]⟩ d hb (constant (F := Ideal) ⟨0, ![]⟩ .f32 w) = up2 fun _ _ => word w := funext fun _ => word_eq w h

/-- A vector along the columns of a matrix: every row is it. -/
theorem inDim1_up1 (f : ℕ → ℝ) (hb) : broadcastInDim ⟨2, ![m, n]⟩ ![1] hb (up1 (n := n) f) = up2 fun _ b => f b := by
  funext j
  refine (broadcastInDim_apply _ _ _ j (ValueIdx.ix1 (j 1)) fun a => ?_).trans rfl
  match a with
  | ⟨0, _⟩ =>
    have h : (j 1).val < n := (j 1).isLt
    show (j 1).val = if n = 1 then 0 else (j 1).val
    split <;> omega
theorem inDim0_up1 (f : ℕ → ℝ) (hb) : broadcastInDim ⟨2, ![m, n]⟩ ![0] hb (up1 (n := m) f) = up2 fun a _ => f a := by
  funext j
  refine (broadcastInDim_apply _ _ _ j (ValueIdx.ix1 (j 0)) fun a => ?_).trans rfl
  match a with
  | ⟨0, _⟩ =>
    have h : (j 0).val < m := (j 0).isLt
    show (j 0).val = if m = 1 then 0 else (j 0).val
    split <;> omega
theorem inDim01_col (f : ℕ → ℕ → ℝ) (hb) :
    broadcastInDim ⟨2, ![m, n]⟩ ![0, 1] hb (up2 (m := m) (n := 1) f) = up2 fun a _ => f a 0 := by
  funext j
  refine (broadcastInDim_apply _ _ _ j (ValueIdx.ix2 (j 0) (0 : Fin 1)) fun a => ?_).trans rfl
  match a with
  | ⟨0, _⟩ =>
    have h : (j 0).val < m := (j 0).isLt
    show (j 0).val = if m = 1 then 0 else (j 0).val
    split <;> omega
  | ⟨1, _⟩ => rfl
theorem inDim01_row (f : ℕ → ℕ → ℝ) (hb) :
    broadcastInDim ⟨2, ![m, n]⟩ ![0, 1] hb (up2 (m := 1) (n := n) f) = up2 fun _ b => f 0 b := by
  funext j
  refine (broadcastInDim_apply _ _ _ j (ValueIdx.ix2 (0 : Fin 1) (j 1)) fun a => ?_).trans rfl
  match a with
  | ⟨0, _⟩ => rfl
  | ⟨1, _⟩ =>
    have h : (j 1).val < n := (j 1).isLt
    show (j 1).val = if n = 1 then 0 else (j 1).val
    split <;> omega
theorem broadcastTo_col (f : ℕ → ℕ → ℝ) (hb) :
    broadcastTo ⟨2, ![m, n]⟩ (up2 (m := m) (n := 1) f) hb = up2 fun a _ => f a 0 := by
  funext j
  refine (broadcastTo_apply _ _ j (ValueIdx.ix2 (j 0) (0 : Fin 1)) fun a => ?_).trans rfl
  match a with
  | ⟨0, _⟩ =>
    have h : (j 0).val < m := (j 0).isLt
    show (j 0).val = if m = 1 then 0 else (j 0).val
    split <;> omega
  | ⟨1, _⟩ => rfl
theorem broadcastTo_row (f : ℕ → ℕ → ℝ) (hb) :
    broadcastTo ⟨2, ![m, n]⟩ (up2 (m := 1) (n := n) f) hb = up2 fun _ b => f 0 b := by
  funext j
  refine (broadcastTo_apply _ _ j (ValueIdx.ix2 (0 : Fin 1) (j 1)) fun a => ?_).trans rfl
  match a with
  | ⟨0, _⟩ => rfl
  | ⟨1, _⟩ =>
    have h : (j 1).val < n := (j 1).isLt
    show (j 1).val = if n = 1 then 0 else (j 1).val
    split <;> omega

/-! ## Slices, reshapes, transposes, concatenations -/

theorem slice_up2 (f : ℕ → ℕ → ℝ) (o0 o1 : ℕ) (h) :
    extractStridedSlice ⟨2, ![p, q]⟩ ![o0, o1] (up2 (m := m) (n := n) f) h = up2 fun a b => f (o0 + a) (o1 + b) := rfl

theorem cast_up2_up3 (f : ℕ → ℕ → ℝ) (h) : shapeCast ⟨3, ![1, m, n]⟩ (up2 (m := m) (n := n) f) h = up3 fun _ b c => f b c := by
  funext j
  refine (shapeCast_apply _ _ j (ValueIdx.ix2 (j 1) (j 2)) ?_).trans rfl
  have h0 : (j 0).val < 1 := (j 0).isLt
  rw [Shape.rowMajor_val_two, Shape.rowMajor_val_three]
  show (j 1).val * n + (j 2).val = ((j 0).val * m + (j 1).val) * n + (j 2).val
  rw [Nat.lt_one_iff.mp h0]; simp
theorem cast_up3_up2 (f : ℕ → ℕ → ℕ → ℝ) (h) :
    shapeCast ⟨2, ![m, n]⟩ (up3 (l := 1) (m := m) (n := n) f) h = up2 fun a b => f 0 a b := by
  funext j
  refine (shapeCast_apply _ _ j (ValueIdx.ix3 (0 : Fin 1) (j 0) (j 1)) ?_).trans rfl
  rw [Shape.rowMajor_val_two, Shape.rowMajor_val_three]
  show ((0 : ℕ) * m + (j 0).val) * n + (j 1).val = (j 0).val * n + (j 1).val
  simp
theorem cast_up1_col (f : ℕ → ℝ) (h) : shapeCast ⟨2, ![m, 1]⟩ (up1 (n := m) f) h = up2 fun a _ => f a := by
  funext j
  refine (shapeCast_apply _ _ j (ValueIdx.ix1 (j 0)) ?_).trans rfl
  have h1 : (j 1).val < 1 := (j 1).isLt
  rw [Shape.rowMajor_val_two, Shape.rowMajor_val_one]
  show (j 0).val = (j 0).val * 1 + (j 1).val
  omega
theorem cast_up1_row (f : ℕ → ℝ) (h) : shapeCast ⟨2, ![1, n]⟩ (up1 (n := n) f) h = up2 fun _ b => f b := by
  funext j
  refine (shapeCast_apply _ _ j (ValueIdx.ix1 (j 1)) ?_).trans rfl
  have h1 : (j 0).val < 1 := (j 0).isLt
  rw [Shape.rowMajor_val_two, Shape.rowMajor_val_one]
  show (j 1).val = (j 0).val * n + (j 1).val
  rw [Nat.lt_one_iff.mp h1]; simp
theorem cast_row_up1 (f : ℕ → ℕ → ℝ) (h) : shapeCast ⟨1, ![n]⟩ (up2 (m := 1) (n := n) f) h = up1 fun b => f 0 b := by
  funext j
  refine (shapeCast_apply _ _ j (ValueIdx.ix2 (0 : Fin 1) (j 0)) ?_).trans rfl
  rw [Shape.rowMajor_val_two, Shape.rowMajor_val_one]
  show 0 * n + (j 0).val = (j 0).val
  simp
theorem cast_col_up1 (f : ℕ → ℕ → ℝ) (h) : shapeCast ⟨1, ![m]⟩ (up2 (m := m) (n := 1) f) h = up1 fun a => f a 0 := by
  funext j
  refine (shapeCast_apply _ _ j (ValueIdx.ix2 (j 0) (0 : Fin 1)) ?_).trans rfl
  rw [Shape.rowMajor_val_two, Shape.rowMajor_val_one]
  show (j 0).val * 1 + 0 = (j 0).val
  simp
/-- The columns in `l` runs of `n`. -/
theorem cast_split_cols (hp : p = l * n) (f : ℕ → ℕ → ℝ) (h) :
    shapeCast ⟨3, ![m, l, n]⟩ (up2 (m := m) (n := p) f) h = up3 fun a j c => f a (j * n + c) := by
  subst hp
  funext j
  have h1 : (j 1).val < l := (j 1).isLt
  have h2 : (j 2).val < n := (j 2).isLt
  have hb : (j 1).val * n + (j 2).val < l * n := by
    calc (j 1).val * n + (j 2).val < (j 1).val * n + n := by omega
      _ = ((j 1).val + 1) * n := by ring
      _ ≤ l * n := Nat.mul_le_mul_right n h1
  refine (shapeCast_apply _ _ j (ValueIdx.ix2 (j 0) (⟨_, hb⟩ : Fin (l * n))) ?_).trans rfl
  rw [Shape.rowMajor_val_two, Shape.rowMajor_val_three]
  show (j 0).val * (l * n) + ((j 1).val * n + (j 2).val) = ((j 0).val * l + (j 1).val) * n + (j 2).val
  ring
/-- The rows in `l` runs of `m`. -/
theorem cast_split_rows (hp : p = l * m) (f : ℕ → ℕ → ℝ) (h) :
    shapeCast ⟨3, ![l, m, n]⟩ (up2 (m := p) (n := n) f) h = up3 fun j a c => f (j * m + a) c := by
  subst hp
  funext j
  have h1 : (j 0).val < l := (j 0).isLt
  have h2 : (j 1).val < m := (j 1).isLt
  have hb : (j 0).val * m + (j 1).val < l * m := by
    calc (j 0).val * m + (j 1).val < (j 0).val * m + m := by omega
      _ = ((j 0).val + 1) * m := by ring
      _ ≤ l * m := Nat.mul_le_mul_right m h1
  refine (shapeCast_apply _ _ j (ValueIdx.ix2 (⟨_, hb⟩ : Fin (l * m)) (j 2)) ?_).trans rfl
  rw [Shape.rowMajor_val_two, Shape.rowMajor_val_three]
  rfl
theorem transpose_up3 (f : ℕ → ℕ → ℕ → ℝ) (h) :
    transpose ⟨3, ![m, l, n]⟩ [1, 0, 2] (up3 (l := l) (m := m) (n := n) f) h = up3 fun a b c => f b a c := by
  funext j
  refine (transpose_apply [1, 0, 2] _ _ j (ValueIdx.ix3 (j 1) (j 0) (j 2)) fun b => ?_).trans rfl
  match b with
  | ⟨0, _⟩ => rfl
  | ⟨1, _⟩ => rfl
  | ⟨2, _⟩ => rfl

theorem concat_rows (f g : ℕ → ℕ → ℝ) (h) :
    concatenate ⟨2, ![k, n]⟩ 0 [⟨⟨2, ![m, n]⟩, up2 (m := m) (n := n) f⟩, ⟨⟨2, ![l, n]⟩, up2 (m := l) (n := n) g⟩] h
      = up2 fun a b => if a < m then f a b else g (a - m) b := by
  funext j
  rw [concatenate_apply]
  simp only [concatenateAt_cons, concatenateAt_singleton]
  show (if _ : (j 0).val < m then _ else _) = (((if (j 0).val < m then f (j 0).val (j 1).val else g ((j 0).val - m) (j 1).val : ℝ)) : EReal)
  split <;> rfl
/-- One matrix above another. -/
def stackRows (x : (⟨2, ![m, n]⟩ : Shape).Idx → EReal) (y : (⟨2, ![l, n]⟩ : Shape).Idx → EReal)
    (h : Shape.Concatenates [⟨2, ![m, n]⟩, ⟨2, ![l, n]⟩] ⟨2, ![k, n]⟩ 0) : (⟨2, ![k, n]⟩ : Shape).Idx → EReal :=
  concatenate ⟨2, ![k, n]⟩ 0 [⟨⟨2, ![m, n]⟩, x⟩, ⟨⟨2, ![l, n]⟩, y⟩] h
theorem concat_stack (x : (⟨2, ![m, n]⟩ : Shape).Idx → EReal) (y : (⟨2, ![l, n]⟩ : Shape).Idx → EReal) (h) :
    concatenate ⟨2, ![k, n]⟩ 0 [⟨⟨2, ![m, n]⟩, x⟩, ⟨⟨2, ![l, n]⟩, y⟩] h = stackRows x y h := rfl
theorem stackRows_up2 (f g : ℕ → ℕ → ℝ) (h) : stackRows (k := k) (up2 (m := m) (n := n) f) (up2 (m := l) (n := n) g) h
    = up2 fun a b => if a < m then f a b else g (a - m) b := concat_rows f g h
theorem concat_cols (f g : ℕ → ℕ → ℝ) (h) :
    concatenate ⟨2, ![m, k]⟩ 1 [⟨⟨2, ![m, n]⟩, up2 (m := m) (n := n) f⟩, ⟨⟨2, ![m, l]⟩, up2 (m := m) (n := l) g⟩] h
      = up2 fun a b => if b < n then f a b else g a (b - n) := by
  funext j
  rw [concatenate_apply]
  simp only [concatenateAt_cons, concatenateAt_singleton]
  show (if _ : (j 1).val < n then _ else _) = (((if (j 1).val < n then f (j 0).val (j 1).val else g (j 0).val ((j 1).val - n) : ℝ)) : EReal)
  split <;> rfl
theorem concat_five (f0 f1 f2 f3 f4 : ℕ → ℕ → ℝ) (h) :
    concatenate ⟨2, ![5, n]⟩ 0 [⟨⟨2, ![1, n]⟩, up2 (m := 1) (n := n) f0⟩, ⟨⟨2, ![1, n]⟩, up2 (m := 1) (n := n) f1⟩,
        ⟨⟨2, ![1, n]⟩, up2 (m := 1) (n := n) f2⟩, ⟨⟨2, ![1, n]⟩, up2 (m := 1) (n := n) f3⟩, ⟨⟨2, ![1, n]⟩, up2 (m := 1) (n := n) f4⟩] h
      = up2 fun a b => if a < 1 then f0 a b else if a - 1 < 1 then f1 (a - 1) b else if a - 1 - 1 < 1 then f2 (a - 1 - 1) b
          else if a - 1 - 1 - 1 < 1 then f3 (a - 1 - 1 - 1) b else f4 (a - 1 - 1 - 1 - 1) b := by
  funext j
  rw [concatenate_apply]
  simp only [concatenateAt_cons, concatenateAt_singleton]
  show (if _ : (j 0).val < 1 then _ else if _ : (j 0).val - 1 < 1 then _ else if _ : (j 0).val - 1 - 1 < 1 then _
    else if _ : (j 0).val - 1 - 1 - 1 < 1 then _ else _) = _
  unfold up2
  dsimp only
  split_ifs <;> rfl

theorem rotate_up2 (w : BitVec 32) (f : ℕ → ℕ → ℝ) (h) :
    dynamicRotate (s := ⟨2, ![m, n]⟩) 0 w none (up2 (m := m) (n := n) f) h
      = up2 fun a b => f ((a + m - w.toNat % m) % m) b := rfl

/-- Rows 16 onward of 272 rows turned by 15 or 14: the rows from the second or the third on. -/
theorem shift1_up2 (f : ℕ → ℕ → ℝ) (h) (h') :
    extractStridedSlice ⟨2, ![256, n]⟩ ![16, 0] (dynamicRotate (s := ⟨2, ![272, n]⟩) 0 15#32 none (up2 (m := 272) (n := n) f) h) h'
      = up2 fun a b => f (a + 1) b := by
  rw [rotate_up2, slice_up2]
  refine up2_congr fun a ha b hb => ?_
  show f ((16 + a + 272 - 15 % 272) % 272) (0 + b) = _
  rw [Nat.zero_add, show (16 + a + 272 - 15 % 272) % 272 = a + 1 by omega]
theorem shift2_up2 (f : ℕ → ℕ → ℝ) (h) (h') :
    extractStridedSlice ⟨2, ![256, n]⟩ ![16, 0] (dynamicRotate (s := ⟨2, ![272, n]⟩) 0 14#32 none (up2 (m := 272) (n := n) f) h) h'
      = up2 fun a b => f (a + 2) b := by
  rw [rotate_up2, slice_up2]
  refine up2_congr fun a ha b hb => ?_
  show f ((16 + a + 272 - 14 % 272) % 272) (0 + b) = _
  rw [Nat.zero_add, show (16 + a + 272 - 14 % 272) % 272 = a + 2 by omega]

theorem pad_up2 (w : BitVec 32) (hw : (w.extractLsb' 23 8).toNat ≠ 255) (lo hi : ℕ) (f : ℕ → ℕ → ℝ) (h) (hu) :
    pad ⟨2, ![k, n]⟩ ![lo, 0] ![hi, 0] ![0, 0] (up2 (m := m) (n := n) f) (constant (F := Ideal) ⟨0, ![]⟩ .f32 w) h hu
      = up2 fun a b => if lo ≤ a ∧ a - lo < m then f (a - lo) b else word w := by
  funext j
  have h1 : (j 1).val < n := (j 1).isLt
  unfold pad
  show _ = (((if lo ≤ (j 0).val ∧ (j 0).val - lo < m then f ((j 0).val - lo) (j 1).val else word w : ℝ)) : EReal)
  by_cases c : lo ≤ (j 0).val ∧ (j 0).val - lo < m
  · rw [if_pos c, dif_pos]
    · show ((f (((j 0).val - lo) / 1) (((j 1).val - 0) / 1) : ℝ) : EReal) = _
      rw [Nat.div_one, Nat.div_one]; rfl
    · intro a
      match a with
      | ⟨0, _⟩ => exact ⟨c.1, Nat.mod_one _, by show ((j 0).val - lo) / 1 < m; rw [Nat.div_one]; exact c.2⟩
      | ⟨1, _⟩ => exact ⟨Nat.zero_le _, Nat.mod_one _, by show ((j 1).val - 0) / 1 < n; rw [Nat.div_one]; exact h1⟩
  · rw [if_neg c, dif_neg]
    · exact word_eq w hw
    · intro hall
      have := hall 0
      refine c ⟨this.1, ?_⟩
      have h2 : ((j 0).val - lo) / 1 < m := this.2.2
      rwa [Nat.div_one] at h2

end Layout

/-! ## Sums and products -/

section Sums
variable {φ : FTy} {m n K : ℕ}

theorem coe_sum (K : ℕ) (f : ℕ → ℝ) : (∑ k : Fin K, ((f k.val : ℝ) : EReal)) = ((∑ k ∈ Finset.range K, f k : ℝ) : EReal) := by
  rw [Fin.sum_univ_eq_sum_range fun k => ((f k : ℝ) : EReal)]
  induction K with
  | zero => rfl
  | succ K ih => rw [Finset.sum_range_succ, Finset.sum_range_succ, ih, EReal.coe_add]

theorem sumCols_up2 (f : ℕ → ℕ → ℝ) (h) :
    multiReduction (F := Ideal) (φ := .f32) (s := ⟨2, ![m, n]⟩) .add [1] ⟨1, ![m]⟩ (up2 (m := m) (n := n) f) 0x00000000#32 h (.inl rfl) rfl
      = up1 fun a => ∑ k ∈ Finset.range n, f a k := by
  funext j
  refine (Ideal.multiReduction_add_single (φ := .f32) _ _ h (.inl rfl) rfl j).trans ?_
  exact coe_sum n fun k => f (j 0).val k
theorem sumRows_up2 (f : ℕ → ℕ → ℝ) (h) :
    multiReduction (F := Ideal) (φ := .f32) (s := ⟨2, ![m, n]⟩) .add [0] ⟨1, ![n]⟩ (up2 (m := m) (n := n) f) 0x00000000#32 h (.inl rfl) rfl
      = up1 fun b => ∑ k ∈ Finset.range m, f k b := by
  funext j
  refine (Ideal.multiReduction_add_single (φ := .f32) _ _ h (.inl rfl) rfl j).trans ?_
  exact coe_sum m fun k => f k (j 0).val

theorem hostSumCols_up2 (f : ℕ → ℕ → ℝ) (h' : (⟨2, ![m, n]⟩ : Shape).ReducesTo [1] ⟨1, ![m]⟩) (hu) :
    Host.reduceAdd (F := Ideal) (φ := .f32) (up2 (m := m) (n := n) f) (constant (F := Ideal) ⟨0, ![]⟩ .f32 0x00000000#32) h' hu
      = up1 fun a => ∑ k ∈ Finset.range n, f a k := by
  funext j
  have h : (⟨2, ![m, n]⟩ : Shape).Reduces [1] ⟨1, ![m]⟩ := ⟨h'.1, Nat.one_pos, h'.2⟩
  simp only [Host.reduceAdd, Ideal.hostReduceAdd_def]
  rw [Ideal.hostReduceAdd_single h' h]
  refine (congrArg₂ (· + ·) Ideal.ofBits_zero_f32 (coe_sum n fun k => f (j 0).val k)).trans (zero_add _)
theorem hostSumRows_up2 (f : ℕ → ℕ → ℝ) (h' : (⟨2, ![m, n]⟩ : Shape).ReducesTo [0] ⟨1, ![n]⟩) (hu) :
    Host.reduceAdd (F := Ideal) (φ := .f32) (up2 (m := m) (n := n) f) (constant (F := Ideal) ⟨0, ![]⟩ .f32 0x00000000#32) h' hu
      = up1 fun b => ∑ k ∈ Finset.range m, f k b := by
  funext j
  have h : (⟨2, ![m, n]⟩ : Shape).Reduces [0] ⟨1, ![n]⟩ := ⟨h'.1, Nat.one_pos, h'.2⟩
  simp only [Host.reduceAdd, Ideal.hostReduceAdd_def]
  rw [Ideal.hostReduceAdd_single h' h]
  refine (congrArg₂ (· + ·) Ideal.ofBits_zero_f32 (coe_sum m fun k => f k (j 0).val)).trans (zero_add _)

/-- A product with a transposed right operand, summed into zeros. -/
theorem matmulT_up2 {φ₁ φ₂ : FTy} (d : DotDims ⟨2, ![m, K]⟩ ⟨2, ![n, K]⟩ ⟨2, ![m, n]⟩) (hd : d = DotDims.transposedRhs m K n)
    (f g : ℕ → ℕ → ℝ) :
    matmul (F := Ideal) (φ₁ := φ₁) (φ₂ := φ₂) d none (up2 (m := m) (n := K) f) (up2 (m := n) (n := K) g)
        (constant (F := Ideal) ⟨2, ![m, n]⟩ .f32 0x00000000#32)
      = up2 fun a b => ∑ k ∈ Finset.range K, f a k * g b k := by
  subst hd
  funext j
  obtain ⟨r, c, rfl⟩ : ∃ r c, j = ValueIdx.ix2 r c := ⟨j 0, j 1, by funext a; match a with | ⟨0, _⟩ => rfl | ⟨1, _⟩ => rfl⟩
  unfold matmul
  rw [Ideal.matmul_transposedRhs_apply]
  refine (congrArg₂ (· + ·) Ideal.ofBits_zero_f32 ?_).trans (zero_add _)
  refine Eq.trans (Finset.sum_congr rfl fun k _ => ?_) (coe_sum K fun k => f r.val k * g c.val k)
  exact (EReal.coe_mul _ _).symm
theorem dotT_up2 {φ₁ φ₂ : FTy} (d : DotDims ⟨2, ![m, K]⟩ ⟨2, ![n, K]⟩ ⟨2, ![m, n]⟩) (hd : d = DotDims.transposedRhs m K n)
    (f g : ℕ → ℕ → ℝ) :
    Host.dotGeneral (F := Ideal) (φ₁ := φ₁) (φ₂ := φ₂) d none (up2 (m := m) (n := K) f) (up2 (m := n) (n := K) g)
      = up2 fun a b => ∑ k ∈ Finset.range K, f a k * g b k := by
  refine Eq.trans ?_ (matmulT_up2 (φ₁ := φ₁) (φ₂ := φ₂) d hd f g)
  funext j
  unfold matmul Host.dotGeneral
  rw [Ideal.matmul_apply, Ideal.dotGeneral_apply]
  exact ((congrArg (· + _) Ideal.ofBits_zero_f32).trans (zero_add _)).symm
theorem dot_up2 {φ₁ φ₂ : FTy} (d : DotDims ⟨2, ![m, K]⟩ ⟨2, ![K, n]⟩ ⟨2, ![m, n]⟩) (hd : d = DotDims.plain m K n)
    (f g : ℕ → ℕ → ℝ) :
    Host.dotGeneral (F := Ideal) (φ₁ := φ₁) (φ₂ := φ₂) d none (up2 (m := m) (n := K) f) (up2 (m := K) (n := n) g)
      = up2 fun a b => ∑ k ∈ Finset.range K, f a k * g k b := by
  subst hd
  funext j
  obtain ⟨r, c, rfl⟩ : ∃ r c, j = ValueIdx.ix2 r c := ⟨j 0, j 1, by funext a; match a with | ⟨0, _⟩ => rfl | ⟨1, _⟩ => rfl⟩
  have e := Ideal.matmul_plain_apply (φ₁ := φ₁) (φ₂ := φ₂) none (up2 (m := m) (n := K) f) (up2 (m := K) (n := n) g)
    (constant (F := Ideal) ⟨2, ![m, n]⟩ .f32 0x00000000#32) r c
  rw [Ideal.matmul_apply] at e
  have e' := e.trans (congrArg₂ (· + ·) Ideal.ofBits_zero_f32 (Eq.trans (Finset.sum_congr rfl fun k _ => (EReal.coe_mul _ _).symm)
    (coe_sum K fun k => f r.val k * g k c.val)))
  unfold Host.dotGeneral
  rw [Ideal.dotGeneral_apply]
  exact ((congrArg (· + _) Ideal.ofBits_zero_f32).trans (zero_add _)).symm.trans (e'.trans (zero_add _))

end Sums

end Cert.Lift
-- ==== Proof.Bwd.BodySpec.lean ====
/- What a step of the `ffn_backward` call computes, in real arithmetic: the block's rows of each gradient, from its rows of
   the inputs, the weights and the rows carried from the step before (which holds the rows that follow). -/
module

public import proofs.«01_k».proof.Proof.Bwd.LiftShape

@[expose] public section

noncomputable section

namespace Cert.Lift

open Finset

/-- The root mean square of a row of 1024 numbers, inverted. -/
def invRms (f : ℕ → ℕ → ℝ) (a : ℕ) : ℝ := (Real.sqrt ((∑ k ∈ range 1024, f a k * f a k) / 1024 + eps))⁻¹
/-- The row over its root mean square. -/
def unitRow (f : ℕ → ℕ → ℝ) (a b : ℕ) : ℝ := f a b * invRms f a
/-- The gradient through `unitRow` of a gradient `g`. -/
def unitBack (f g : ℕ → ℕ → ℝ) (a b : ℕ) : ℝ :=
  invRms f a * (g a b - unitRow f a b * ((∑ k ∈ range 1024, g a k * unitRow f a k) / 1024))

/-- A block: rows of the gradient coming in, of both normalised inputs and of the saved products, the five vectors, the
weights and the rows carried in. -/
structure Block where
  (dout inp mid : ℕ → ℕ → ℝ)
  (pre conv : ℕ → ℕ → ℕ → ℝ)
  (vec : ℕ → ℕ → ℝ)
  (up : ℕ → ℕ → ℕ → ℝ)
  (taps : ℕ → ℕ → ℝ)
  (down : ℕ → ℕ → ℕ → ℝ)
  (carry : ℕ → ℕ → ℕ → ℝ)

namespace Block
variable (B : Block)

def dMid : ℕ → ℕ → ℝ := unitBack B.mid fun a b => B.dout a b * (B.vec 3 b * B.vec 4 b)
def dProd (q a c : ℕ) : ℝ := ∑ k ∈ range 1024, B.dMid a k * B.down q c k
def sig (j a c : ℕ) : ℝ := 1 / 2 * Real.tanh (1 / 2 * B.conv j a c) + 1 / 2
/-- The gradient at the convolution's output: the gate's halves are 0 and 1, the other factor's 2 and 3. -/
def dConv (j a c : ℕ) : ℝ :=
  if j < 2 then B.dProd j a c * B.conv (j + 2) a c * (B.sig j a c * (1 + B.conv j a c * (1 - B.sig j a c)))
  else B.dProd (j - 2) a c * (B.conv (j - 2) a c * B.sig (j - 2) a c)
/-- `dConv`, going on below the block with the rows carried in. -/
def dLong (j a c : ℕ) : ℝ := if a < 256 then B.dConv j a c else B.carry j (a - 256) c
def dPre (j a c : ℕ) : ℝ :=
  B.taps 2 (j * 1408 + c) * B.dConv j a c + B.taps 1 (j * 1408 + c) * B.dLong j (a + 1) c
    + B.taps 0 (j * 1408 + c) * B.dLong j (a + 2) c
def dHalf (j a d : ℕ) : ℝ := ∑ c ∈ range 1408, B.dPre j a c * B.up j d c
def dHid (a d : ℕ) : ℝ := B.dHalf 0 a d + B.dHalf 2 a d + B.dHalf 1 a d + B.dHalf 3 a d
def dInp (a b : ℕ) : ℝ := B.dout a b + unitBack B.inp (fun a b => B.dHid a b * (B.vec 0 b * B.vec 1 b)) a b
/-- The block's part of the gradient of tap `i` at lane `c` of quarter `j`. -/
def dTap (j i c : ℕ) : ℝ :=
  if i = 0 then ∑ a ∈ range 256, B.dLong j (a + 2) c * B.pre j a c
  else if i = 1 then ∑ a ∈ range 256, B.dLong j (a + 1) c * B.pre j a c
  else if i = 2 then ∑ a ∈ range 256, B.dConv j a c * B.pre j a c
  else 0
/-- The block's part of the sums over rows: what leaves for the five vectors. -/
def dVec (i b : ℕ) : ℝ :=
  if i = 0 then (∑ a ∈ range 256, B.dout a b * unitRow B.mid a b) * B.vec 3 b
  else if i = 1 then (∑ a ∈ range 256, B.dout a b * unitRow B.mid a b) * B.vec 4 b
  else if i = 2 then (∑ a ∈ range 256, B.dHid a b * unitRow B.inp a b) * B.vec 1 b
  else if i = 3 then (∑ a ∈ range 256, B.dHid a b * unitRow B.inp a b) * B.vec 0 b
  else if i = 4 then ∑ a ∈ range 256, B.dHid a b
  else 0
end Block

end Cert.Lift
-- ==== Proof.Bwd.Spec.lean ====
/- What the whole call computes, in real arithmetic, of all 8192 rows: the forward products it is handed, and each gradient;
   and a step's block of 256 rows, in which each gradient is the same one over the block's rows. -/
module

public import proofs.«01_k».proof.Proof.Bwd.BodySpec

@[expose] public section

noncomputable section

namespace Cert.Lift

open Finset

/-- The logistic function. -/
def logi (x : ℝ) : ℝ := 1 / (1 + Real.exp (-x))

/-- The arguments. -/
structure Args where
  (dout inp : ℕ → ℕ → ℝ)
  (gain scale shift gate gain2 : ℕ → ℝ)
  (up taps down : ℕ → ℕ → ℝ)

namespace Args
variable (A : Args)

/-! The forward lines. -/
def normed (a b : ℕ) : ℝ := unitRow A.inp a b * A.gain b * (1 + A.scale b) + A.shift b
def pre (a l : ℕ) : ℝ := ∑ d ∈ range 1024, A.normed a d * A.up d l
/-- `pre` below two rows of zeros. -/
def padded (a l : ℕ) : ℝ := if a < 2 then 0 else A.pre (a - 2) l
def conv (a l : ℕ) : ℝ :=
  A.taps 0 l * A.padded a l + A.taps 1 l * A.padded (a + 1) l + A.taps 2 l * A.padded (a + 2) l
def act (a f : ℕ) : ℝ := A.conv a f * logi (A.conv a f)
def prod (a f : ℕ) : ℝ := A.act a f * A.conv a (2816 + f)
def mid (a b : ℕ) : ℝ := ∑ f ∈ range 2816, A.prod a f * A.down f b
/-- The five vectors as rows. -/
def vec (i b : ℕ) : ℝ :=
  if i = 0 then A.gain b else if i = 1 then 1 + A.scale b else if i = 2 then A.shift b
  else if i = 3 then A.gate b else if i = 4 then A.gain2 b else 0

/-! The gradients. -/
def dMid : ℕ → ℕ → ℝ := unitBack A.mid fun a b => A.dout a b * (A.gate b * A.gain2 b)
def dProd (a f : ℕ) : ℝ := ∑ k ∈ range 1024, A.dMid a k * A.down f k
def sig (a l : ℕ) : ℝ := 1 / 2 * Real.tanh (1 / 2 * A.conv a l) + 1 / 2
/-- At the convolution's output: the gate's lanes, then the other factor's. -/
def dConv (a l : ℕ) : ℝ :=
  if l < 2816 then A.dProd a l * A.conv a (2816 + l) * (A.sig a l * (1 + A.conv a l * (1 - A.sig a l)))
  else A.dProd a (l - 2816) * (A.conv a (l - 2816) * A.sig a (l - 2816))
/-- `dConv` above rows of zeros. -/
def dLong (a l : ℕ) : ℝ := if a < 8192 then A.dConv a l else 0
def dPre (a l : ℕ) : ℝ :=
  A.taps 2 l * A.dConv a l + A.taps 1 l * A.dLong (a + 1) l + A.taps 0 l * A.dLong (a + 2) l
def dHid (a d : ℕ) : ℝ := ∑ l ∈ range 5632, A.dPre a l * A.up d l
def dInp (a b : ℕ) : ℝ := A.dout a b + unitBack A.inp (fun a b => A.dHid a b * (A.gain b * (1 + A.scale b))) a b
/-- The part of `rows` of the gradient of the taps. -/
def dTapOf (rows : Finset ℕ) (i l : ℕ) : ℝ :=
  if i = 0 then ∑ a ∈ rows, A.dLong (a + 2) l * A.pre a l
  else if i = 1 then ∑ a ∈ rows, A.dLong (a + 1) l * A.pre a l
  else if i = 2 then ∑ a ∈ rows, A.dConv a l * A.pre a l
  else 0
/-- The part of `rows` of the gradients of the five vectors. -/
def dVecOf (rows : Finset ℕ) (i b : ℕ) : ℝ :=
  if i = 0 then (∑ a ∈ rows, A.dout a b * unitRow A.mid a b) * A.gate b
  else if i = 1 then (∑ a ∈ rows, A.dout a b * unitRow A.mid a b) * A.gain2 b
  else if i = 2 then (∑ a ∈ rows, A.dHid a b * unitRow A.inp a b) * (1 + A.scale b)
  else if i = 3 then (∑ a ∈ rows, A.dHid a b * unitRow A.inp a b) * A.gain b
  else if i = 4 then ∑ a ∈ rows, A.dHid a b
  else 0

/-- The first row of step `n`'s block: the steps go up from the last rows. -/
def row (n : ℕ) : ℕ := 256 * (31 - n)

/-- Step `n`'s block. -/
def block (n : ℕ) : Block where
  dout a b := A.dout (row n + a) b
  inp a b := A.inp (row n + a) b
  mid a b := A.mid (row n + a) b
  pre q a c := A.pre (row n + a) (q * 1408 + c)
  conv q a c := A.conv (row n + a) (q * 1408 + c)
  vec := A.vec
  up q d c := A.up d (q * 1408 + c)
  taps := A.taps
  down q c b := A.down (q * 1408 + c) b
  carry q a c := if n = 0 then 0 else A.dConv (row n + 256 + a) (q * 1408 + c)

variable {A}

theorem block_dMid (n : ℕ) : (A.block n).dMid = fun a b => A.dMid (row n + a) b := rfl
theorem block_dProd (n q a c : ℕ) : (A.block n).dProd q a c = A.dProd (row n + a) (q * 1408 + c) := rfl
theorem block_sig (n q a c : ℕ) : (A.block n).sig q a c = A.sig (row n + a) (q * 1408 + c) := rfl
theorem block_dConv (n : ℕ) {q a c : ℕ} (hq : q < 4) (hc : c < 1408) :
    (A.block n).dConv q a c = A.dConv (row n + a) (q * 1408 + c) := by
  unfold Block.dConv dConv
  by_cases h : q < 2
  · rw [if_pos h, if_pos (by omega), show 2816 + (q * 1408 + c) = (q + 2) * 1408 + c by omega]; rfl
  · rw [if_neg h, if_neg (by omega), show q * 1408 + c - 2816 = (q - 2) * 1408 + c by omega]; rfl
theorem block_dLong (n : ℕ) (hn : n < 32) {q a c : ℕ} (hq : q < 4) (ha : a < 258) (hc : c < 1408) :
    (A.block n).dLong q a c = A.dLong (row n + a) (q * 1408 + c) := by
  unfold Block.dLong dLong
  by_cases h : a < 256
  · rw [if_pos h, if_pos (by unfold row; omega), block_dConv n hq hc]
  · rw [if_neg h]
    show (if n = 0 then 0 else A.dConv (row n + 256 + (a - 256)) (q * 1408 + c)) = _
    by_cases h0 : n = 0
    · rw [if_pos h0, if_neg (by unfold row; omega)]
    · rw [if_neg h0, if_pos (by unfold row; omega), show row n + 256 + (a - 256) = row n + a by omega]
theorem block_dPre (n : ℕ) (hn : n < 32) {q a c : ℕ} (hq : q < 4) (ha : a < 256) (hc : c < 1408) :
    (A.block n).dPre q a c = A.dPre (row n + a) (q * 1408 + c) := by
  unfold Block.dPre dPre
  rw [block_dConv n hq hc, block_dLong n hn hq (by omega) hc, block_dLong n hn hq (by omega) hc]
  rfl

/-- A sum over the lanes, a quarter at a time. -/
theorem sum_quarters (f : ℕ → ℝ) : ∑ l ∈ range 5632, f l
    = (∑ c ∈ range 1408, f (0 * 1408 + c)) + (∑ c ∈ range 1408, f (2 * 1408 + c))
      + (∑ c ∈ range 1408, f (1 * 1408 + c)) + ∑ c ∈ range 1408, f (3 * 1408 + c) := by
  rw [show 5632 = 1408 + 1408 + 1408 + 1408 from rfl, sum_range_add, sum_range_add, sum_range_add]
  simp only [Nat.zero_mul, Nat.zero_add, Nat.one_mul, Nat.reduceMul, Nat.reduceAdd]
  ring
theorem block_dHalf (n : ℕ) (hn : n < 32) {q a : ℕ} (hq : q < 4) (ha : a < 256) (d : ℕ) :
    (A.block n).dHalf q a d = ∑ c ∈ range 1408, A.dPre (row n + a) (q * 1408 + c) * A.up d (q * 1408 + c) :=
  sum_congr rfl fun c hc => by rw [block_dPre n hn hq ha (mem_range.mp hc)]; rfl
theorem block_dHid (n : ℕ) (hn : n < 32) {a : ℕ} (ha : a < 256) (d : ℕ) : (A.block n).dHid a d = A.dHid (row n + a) d := by
  unfold Block.dHid dHid
  rw [sum_quarters, block_dHalf n hn (by omega) ha, block_dHalf n hn (by omega) ha, block_dHalf n hn (by omega) ha,
    block_dHalf n hn (by omega) ha]
theorem unitBack_congr (f g g' : ℕ → ℕ → ℝ) (a b : ℕ) (hb : b < 1024) (h : ∀ b < 1024, g a b = g' a b) :
    unitBack f g a b = unitBack f g' a b := by
  unfold unitBack
  rw [h b hb, sum_congr rfl fun k hk => by rw [h k (mem_range.mp hk)]]
theorem block_dInp (n : ℕ) (hn : n < 32) {a b : ℕ} (ha : a < 256) (hb : b < 1024) :
    (A.block n).dInp a b = A.dInp (row n + a) b := by
  unfold Block.dInp
  rw [unitBack_congr _ _ (fun a b => A.dHid (row n + a) b * (A.gain b * (1 + A.scale b))) a b hb fun b _ => by
    rw [block_dHid n hn ha]; rfl]
  rfl

/-- The block's rows. -/
def rows (n : ℕ) : Finset ℕ := Ico (row n) (row n + 256)
theorem sum_rows (n : ℕ) (f : ℕ → ℝ) : ∑ a ∈ rows n, f a = ∑ a ∈ range 256, f (row n + a) := by
  unfold rows
  rw [sum_Ico_eq_sum_range, Nat.add_sub_cancel_left]

theorem block_dTap (n : ℕ) (hn : n < 32) {q c : ℕ} (hq : q < 4) (hc : c < 1408) (i : ℕ) :
    (A.block n).dTap q i c = A.dTapOf (rows n) i (q * 1408 + c) := by
  unfold Block.dTap dTapOf
  simp only [sum_rows]
  congr 1
  · refine sum_congr rfl fun a ha => ?_
    rw [block_dLong n hn hq (by have := mem_range.mp ha; omega) hc]; rfl
  congr 1
  · refine sum_congr rfl fun a ha => ?_
    rw [block_dLong n hn hq (by have := mem_range.mp ha; omega) hc]; rfl
  congr 1
  refine sum_congr rfl fun a ha => ?_
  rw [block_dConv n hq hc]; rfl

theorem block_dVec (n : ℕ) (hn : n < 32) (i b : ℕ) : (A.block n).dVec i b = A.dVecOf (rows n) i b := by
  unfold Block.dVec dVecOf
  simp only [sum_rows]
  have h : ∀ g : ℕ → ℝ, ∑ a ∈ range 256, (A.block n).dHid a b * g a = ∑ a ∈ range 256, A.dHid (row n + a) b * g a :=
    fun g => sum_congr rfl fun a ha => by rw [block_dHid n hn (mem_range.mp ha)]
  have h' : ∑ a ∈ range 256, (A.block n).dHid a b = ∑ a ∈ range 256, A.dHid (row n + a) b :=
    sum_congr rfl fun a ha => by rw [block_dHid n hn (mem_range.mp ha)]
  rw [h, h']
  rfl

/-- The first `n` steps' rows. -/
def upTo : ℕ → Finset ℕ := fun n => Ico (256 * (32 - n)) 8192
theorem sum_upTo (n : ℕ) (hn : n < 32) (f : ℕ → ℝ) : ∑ a ∈ upTo (n + 1), f a = (∑ a ∈ upTo n, f a) + ∑ a ∈ rows n, f a := by
  unfold upTo rows row
  rw [show 256 * (32 - (n + 1)) = 256 * (31 - n) by omega, show 256 * (31 - n) + 256 = 256 * (32 - n) by omega, add_comm]
  exact (sum_Ico_consecutive f (by omega) (by omega)).symm
theorem upTo_zero : upTo 0 = ∅ := by unfold upTo; exact Ico_self _
theorem upTo_last : upTo 32 = range 8192 := by unfold upTo; rw [range_eq_Ico]
theorem dTapOf_zero (i l : ℕ) : A.dTapOf (upTo 0) i l = 0 := by
  unfold dTapOf; simp only [upTo_zero, sum_empty, ite_self]
theorem dVecOf_zero (i b : ℕ) : A.dVecOf (upTo 0) i b = 0 := by
  unfold dVecOf; simp only [upTo_zero, sum_empty, zero_mul, ite_self]
theorem dTapOf_succ (n : ℕ) (hn : n < 32) (i l : ℕ) :
    A.dTapOf (upTo (n + 1)) i l = A.dTapOf (upTo n) i l + A.dTapOf (rows n) i l := by
  unfold dTapOf; simp only [sum_upTo n hn]
  split_ifs <;> simp
theorem dVecOf_succ (n : ℕ) (hn : n < 32) (i b : ℕ) :
    A.dVecOf (upTo (n + 1)) i b = A.dVecOf (upTo n) i b + A.dVecOf (rows n) i b := by
  unfold dVecOf; simp only [sum_upTo n hn]
  split_ifs <;> ring
end Args

end Cert.Lift

end

end
-- ==== Proof.Bwd.LiftFive.lean ====
/- A mean square plus its offset is positive; five rows one above another. -/
module

public import proofs.«01_k».proof.Proof.Bwd.BodySpec

@[expose] public section

noncomputable section

namespace Cert.Lift
theorem meanSq_pos (f : ℕ → ℕ → ℝ) (a : ℕ) : 0 < (∑ k ∈ Finset.range 1024, f a k * f a k) / 1024 + eps :=
  add_pos_of_nonneg_of_pos (div_nonneg (Finset.sum_nonneg fun k _ => mul_self_nonneg _) (by norm_num)) eps_pos

open Idealize.ShloMosaic in
/-- Five rows, one above another. -/
def stackFive {n : ℕ} (x0 x1 x2 x3 x4 : (⟨2, ![1, n]⟩ : Shape).Idx → EReal)
    (h : Shape.Concatenates [⟨2, ![1, n]⟩, ⟨2, ![1, n]⟩, ⟨2, ![1, n]⟩, ⟨2, ![1, n]⟩, ⟨2, ![1, n]⟩] ⟨2, ![5, n]⟩ 0) :
    (⟨2, ![5, n]⟩ : Shape).Idx → EReal :=
  concatenate ⟨2, ![5, n]⟩ 0 [⟨⟨2, ![1, n]⟩, x0⟩, ⟨⟨2, ![1, n]⟩, x1⟩, ⟨⟨2, ![1, n]⟩, x2⟩, ⟨⟨2, ![1, n]⟩, x3⟩, ⟨⟨2, ![1, n]⟩, x4⟩] h
open Idealize.ShloMosaic in
theorem stackFive_eq {n : ℕ} (x0 x1 x2 x3 x4 : (⟨2, ![1, n]⟩ : Shape).Idx → EReal) (h) :
    concatenate ⟨2, ![5, n]⟩ 0 [⟨⟨2, ![1, n]⟩, x0⟩, ⟨⟨2, ![1, n]⟩, x1⟩, ⟨⟨2, ![1, n]⟩, x2⟩, ⟨⟨2, ![1, n]⟩, x3⟩, ⟨⟨2, ![1, n]⟩, x4⟩] h
      = stackFive x0 x1 x2 x3 x4 h := rfl
open Idealize.ShloMosaic in
theorem stackFive_up2 {n : ℕ} (f0 f1 f2 f3 f4 : ℕ → ℕ → ℝ) (h) :
    stackFive (n := n) (up2 f0) (up2 f1) (up2 f2) (up2 f3) (up2 f4) h
      = up2 fun a b => if a = 0 then f0 0 b else if a = 1 then f1 0 b else if a = 2 then f2 0 b
          else if a = 3 then f3 0 b else f4 0 b := by
  refine (concat_five f0 f1 f2 f3 f4 h).trans (up2_congr fun a ha b _ => ?_)
  obtain rfl | rfl | rfl | rfl | rfl : a = 0 ∨ a = 1 ∨ a = 2 ∨ a = 3 ∨ a = 4 := by omega
  all_goals rfl
open Idealize.ShloMosaic in
/-- Five rows above three of zeros. -/
theorem padFive {x0 x1 x2 x3 x4 : (⟨2, ![1, 1024]⟩ : Shape).Idx → EReal} {v : (⟨0, ![]⟩ : Shape).Idx → EReal}
    {f0 f1 f2 f3 f4 : ℕ → ℕ → ℝ} {f : ℕ → ℕ → ℝ} {h hp hu}
    (h0 : x0 = up2 f0) (h1 : x1 = up2 f1) (h2 : x2 = up2 f2) (h3 : x3 = up2 f3) (h4 : x4 = up2 f4)
    (hv : v = constant (F := Ideal) ⟨0, ![]⟩ .f32 0#32)
    (hf : ∀ a < 8, ∀ b < 1024, (if a = 0 then f0 0 b else if a = 1 then f1 0 b else if a = 2 then f2 0 b
          else if a = 3 then f3 0 b else if a = 4 then f4 0 b else 0) = f a b) :
    pad ⟨2, ![8, 1024]⟩ ![0, 0] ![3, 0] ![0, 0] (concatenate ⟨2, ![5, 1024]⟩ 0 [⟨⟨2, ![1, 1024]⟩, x0⟩, ⟨⟨2, ![1, 1024]⟩, x1⟩,
      ⟨⟨2, ![1, 1024]⟩, x2⟩, ⟨⟨2, ![1, 1024]⟩, x3⟩, ⟨⟨2, ![1, 1024]⟩, x4⟩] h) v hp hu = up2 f := by
  subst h0 h1 h2 h3 h4 hv
  rw [stackFive_eq, stackFive_up2, pad_up2 0#32 (by decide)]
  refine up2_congr fun a ha b hb => (Eq.trans ?_ (hf a ha b hb))
  rw [word_zero]
  obtain h | h : a < 5 ∨ 5 ≤ a := by omega
  · rw [if_pos (by omega), Nat.sub_zero]
    obtain rfl | rfl | rfl | rfl | rfl : a = 0 ∨ a = 1 ∨ a = 2 ∨ a = 3 ∨ a = 4 := by omega
    all_goals rfl
  · rw [if_neg (by omega), if_neg (by omega), if_neg (by omega), if_neg (by omega), if_neg (by omega), if_neg (by omega)]
open Idealize.ShloMosaic in
/-- The whole number zero, converted. -/
theorem constant_zero : sitofp (F := Ideal) .f32 (constantI ⟨0, ![]⟩ 32 0#32) = constant (F := Ideal) ⟨0, ![]⟩ .f32 0#32 := by
  funext i
  trans ((0 : ℝ) : EReal)
  · show (((0#32 : BitVec 32).toInt : ℝ) : EReal) = _
    norm_num
  · exact (congrArg _ word_zero.symm).trans (word_eq 0#32 (by decide)).symm
end Cert.Lift

end

end
-- ==== Proof.Bwd.Host.lean ====
/- The `ffn_backward` call's operands as its host lines leave them: the forward products of reference.py's lines, the
   vectors as rows, and the weights and the products cut into quarters of their lanes. -/
module

public import proofs.«01_k».proof.Proof.Bwd.Data
public import proofs.«01_k».proof.Proof.Bwd.Spec
public import proofs.«01_k».proof.Proof.Bwd.LiftFive
public import Idealize.ShloMosaic.Lib.StableHlo.RunRead
public import Idealize.ShloMosaic.Lib.Tactic.CleanTypes

@[expose] public section

set_option maxRecDepth 16384

noncomputable section

namespace Cert.KernelIdeal.Bwd

open Cert.KernelIdeal Cert.KernelIdeal.Gen Cert.Lift
open Idealize.ShloMosaic Idealize.ShloMosaic.TcCoe Idealize.ShloMosaic.StableHlo

variable (m : (ℓ : Loc nD τ sig) → Buf (Elt Ideal) ℓ) (c : Dev nD) (A : Args)

/-- The arguments hold these real numbers. -/
structure Holds : Prop where
  a0 : m (c, Proc.devRef .tc main_arg0) = up2 (m := 8192) (n := 1024) A.dout
  a1 : m (c, Proc.devRef .tc main_arg1) = up2 (m := 8192) (n := 1024) A.inp
  a2 : m (c, Proc.devRef .tc main_arg2) = up1 (n := 1024) A.gain
  a3 : m (c, Proc.devRef .tc main_arg3) = up1 (n := 1024) A.scale
  a4 : m (c, Proc.devRef .tc main_arg4) = up1 (n := 1024) A.shift
  a5 : m (c, Proc.devRef .tc main_arg5) = up1 (n := 1024) A.gate
  a6 : m (c, Proc.devRef .tc main_arg6) = up1 (n := 1024) A.gain2
  a7 : m (c, Proc.devRef .tc main_arg7) = up2 (m := 1024) (n := 5632) A.up
  a8 : m (c, Proc.devRef .tc main_arg8) = up2 (m := 3) (n := 5632) A.taps
  a9 : m (c, Proc.devRef .tc main_arg9) = up2 (m := 2816) (n := 1024) A.down

theorem dot_pre : dot_S8192x1024_S1024x5632_S8192x5632_1_0_0_1_n_n = DotDims.plain 8192 1024 5632 := rfl
theorem dot_mid : dot_S8192x2816_S2816x1024_S8192x1024_1_0_0_1_n_n = DotDims.plain 8192 2816 1024 := rfl

variable {m c A} (h : Holds m c A)
include h

/-- The first product. -/
theorem V_pre : V m c main_v21 = up2 (m := 8192) (n := 5632) A.pre := by
  unfold V
  simp only [hostOps0, hostOps0_1, hostOps0_2, hostOps0_3, hostOps0_4, List.flatten_cons, List.flatten_nil, List.append_nil, List.cons_append, List.nil_append, concat_stack, stackFive_eq]
  after_reads_simp
  try simp -implicitDefEqProofs only [TRef.toBuf, TRef.ofBuf, cast_cast, cast_eq]
  clean_types
  eta_reduce
  simp (disch := first | decide | exact fun a _ => meanSq_pos _ a | (intros; norm_num; done) | (intros; positivity)) only
    [h.a1, h.a2, h.a3, h.a4, h.a5, h.a6, h.a7, h.a8, h.a9, mulf_up2, @hostSumCols_up2 8192 1024, @inDim0_up1 8192 1, spread_up2, spread_up1, word_1024, word_one, word_zero, hostDivf_up2, addf_up2, addf_up1, hostRsqrt_up2, @inDim01_col 8192 1024, @inDim01_row 8192 1024, @inDim01_row 8192 5632, @inDim1_up1 1 1024, @inDim1_up1 1 5632, dot_up2 _ dot_pre, dot_up2 _ dot_mid, stackRows_up2, slice_up2, cast_row_up1, negf_up2, exp_up2, stackFive_up2, pad_up2, cast_split_cols (l := 4) (n := 1408) rfl, cast_split_rows (l := 2) (m := 1408) rfl, transpose_up3]
  rfl
/-- The convolution. -/
theorem V_conv : V m c main_v45 = up2 (m := 8192) (n := 5632) A.conv := by
  unfold V
  simp only [hostOps0, hostOps0_1, hostOps0_2, hostOps0_3, hostOps0_4, List.flatten_cons, List.flatten_nil, List.append_nil, List.cons_append, List.nil_append, concat_stack, stackFive_eq]
  after_reads_simp
  try simp -implicitDefEqProofs only [TRef.toBuf, TRef.ofBuf, cast_cast, cast_eq]
  clean_types
  eta_reduce
  simp (disch := first | decide | exact fun a _ => meanSq_pos _ a | (intros; norm_num; done) | (intros; positivity)) only
    [h.a1, h.a2, h.a3, h.a4, h.a5, h.a6, h.a7, h.a8, h.a9, mulf_up2, @hostSumCols_up2 8192 1024, @inDim0_up1 8192 1, spread_up2, spread_up1, word_1024, word_one, word_zero, hostDivf_up2, addf_up2, addf_up1, hostRsqrt_up2, @inDim01_col 8192 1024, @inDim01_row 8192 1024, @inDim01_row 8192 5632, @inDim1_up1 1 1024, @inDim1_up1 1 5632, dot_up2 _ dot_pre, dot_up2 _ dot_mid, stackRows_up2, slice_up2, cast_row_up1, negf_up2, exp_up2, stackFive_up2, pad_up2, cast_split_cols (l := 4) (n := 1408) rfl, cast_split_rows (l := 2) (m := 1408) rfl, transpose_up3]
  simp only [Nat.zero_add, Nat.add_zero, zero_add, Nat.add_comm 1 _, Nat.add_comm 2 _]
  rfl
theorem V_mid : V m c main_v50 = up2 (m := 8192) (n := 1024) A.mid := by
  unfold V
  simp only [hostOps0, hostOps0_1, hostOps0_2, hostOps0_3, hostOps0_4, List.flatten_cons, List.flatten_nil, List.append_nil, List.cons_append, List.nil_append, concat_stack, stackFive_eq]
  after_reads_simp
  try simp -implicitDefEqProofs only [TRef.toBuf, TRef.ofBuf, cast_cast, cast_eq]
  clean_types
  eta_reduce
  simp (disch := first | decide | exact fun a _ => meanSq_pos _ a | (intros; norm_num; done) | (intros; positivity)) only
    [h.a1, h.a2, h.a3, h.a4, h.a5, h.a6, h.a7, h.a8, h.a9, mulf_up2, @hostSumCols_up2 8192 1024, @inDim0_up1 8192 1, spread_up2, spread_up1, word_1024, word_one, word_zero, hostDivf_up2, addf_up2, addf_up1, hostRsqrt_up2, @inDim01_col 8192 1024, @inDim01_row 8192 1024, @inDim01_row 8192 5632, @inDim1_up1 1 1024, @inDim1_up1 1 5632, dot_up2 _ dot_pre, dot_up2 _ dot_mid, stackRows_up2, slice_up2, cast_row_up1, negf_up2, exp_up2, stackFive_up2, pad_up2, cast_split_cols (l := 4) (n := 1408) rfl, cast_split_rows (l := 2) (m := 1408) rfl, transpose_up3]
  simp only [Nat.zero_add, Nat.add_zero, zero_add, Nat.add_comm 1 _, Nat.add_comm 2 _]
  rfl
theorem V_vec : V m c main_v59 = up2 (m := 8) (n := 1024) A.vec := by
  unfold V
  simp only [hostOps0, hostOps0_1, hostOps0_2, hostOps0_3, hostOps0_4, List.flatten_cons, List.flatten_nil, List.append_nil, List.cons_append, List.nil_append]
  after_reads_simp
  refine padFive (h := concatenates_S1x1024_S1x1024_S1x1024_S1x1024_S1x1024_S5x1024_d0) (hp := pads_S5x1024_S8x1024_030_000)
    (hu := h_S_) (f0 := fun _ b => A.gain b) (f1 := fun _ b => 1 + A.scale b) (f2 := fun _ b => A.shift b)
    (f3 := fun _ b => A.gate b) (f4 := fun _ b => A.gain2 b) ?_ ?_ ?_ ?_ ?_ ?_ fun _ _ _ _ => rfl
  on_goal 6 => exact constant_zero
  all_goals
    dsimp only [Matrix.cons_val]
    after_reads_simp
    simp (disch := decide) only [h.a2, h.a3, h.a4, h.a5, h.a6, spread_up2, word_one, addf_up2, @inDim1_up1 1 1024]
theorem V_preq : V m c main_v62 = up3 (l := 4) (m := 8192) (n := 1408) fun q a j => A.pre a (q * 1408 + j) := by
  unfold V
  simp only [hostOps0, hostOps0_1, hostOps0_2, hostOps0_3, hostOps0_4, List.flatten_cons, List.flatten_nil, List.append_nil, List.cons_append, List.nil_append, concat_stack, stackFive_eq]
  after_reads_simp
  try simp -implicitDefEqProofs only [TRef.toBuf, TRef.ofBuf, cast_cast, cast_eq]
  clean_types
  eta_reduce
  simp (disch := first | decide | exact fun a _ => meanSq_pos _ a | (intros; norm_num; done) | (intros; positivity)) only
    [h.a1, h.a2, h.a3, h.a4, h.a5, h.a6, h.a7, h.a8, h.a9, mulf_up2, @hostSumCols_up2 8192 1024, @inDim0_up1 8192 1, spread_up2, spread_up1, word_1024, word_one, word_zero, hostDivf_up2, addf_up2, addf_up1, hostRsqrt_up2, @inDim01_col 8192 1024, @inDim01_row 8192 1024, @inDim01_row 8192 5632, @inDim1_up1 1 1024, @inDim1_up1 1 5632, dot_up2 _ dot_pre, dot_up2 _ dot_mid, stackRows_up2, slice_up2, cast_row_up1, negf_up2, exp_up2, stackFive_up2, pad_up2, cast_split_cols (l := 4) (n := 1408) rfl, cast_split_rows (l := 2) (m := 1408) rfl, transpose_up3]
  rfl
theorem V_convq : V m c main_v65 = up3 (l := 4) (m := 8192) (n := 1408) fun q a j => A.conv a (q * 1408 + j) := by
  unfold V
  simp only [hostOps0, hostOps0_1, hostOps0_2, hostOps0_3, hostOps0_4, List.flatten_cons, List.flatten_nil, List.append_nil, List.cons_append, List.nil_append, concat_stack, stackFive_eq]
  after_reads_simp
  try simp -implicitDefEqProofs only [TRef.toBuf, TRef.ofBuf, cast_cast, cast_eq]
  clean_types
  eta_reduce
  simp (disch := first | decide | exact fun a _ => meanSq_pos _ a | (intros; norm_num; done) | (intros; positivity)) only
    [h.a1, h.a2, h.a3, h.a4, h.a5, h.a6, h.a7, h.a8, h.a9, mulf_up2, @hostSumCols_up2 8192 1024, @inDim0_up1 8192 1, spread_up2, spread_up1, word_1024, word_one, word_zero, hostDivf_up2, addf_up2, addf_up1, hostRsqrt_up2, @inDim01_col 8192 1024, @inDim01_row 8192 1024, @inDim01_row 8192 5632, @inDim1_up1 1 1024, @inDim1_up1 1 5632, dot_up2 _ dot_pre, dot_up2 _ dot_mid, stackRows_up2, slice_up2, cast_row_up1, negf_up2, exp_up2, stackFive_up2, pad_up2, cast_split_cols (l := 4) (n := 1408) rfl, cast_split_rows (l := 2) (m := 1408) rfl, transpose_up3]
  simp only [Nat.zero_add, Nat.add_zero, zero_add, Nat.add_comm 1 _, Nat.add_comm 2 _]
  rfl
theorem V_up : V m c main_v68 = up3 (l := 4) (m := 1024) (n := 1408) fun q d j => A.up d (q * 1408 + j) := by
  unfold V
  simp only [hostOps0, hostOps0_1, hostOps0_2, hostOps0_3, hostOps0_4, List.flatten_cons, List.flatten_nil, List.append_nil, List.cons_append, List.nil_append, concat_stack, stackFive_eq]
  after_reads_simp
  try simp -implicitDefEqProofs only [TRef.toBuf, TRef.ofBuf, cast_cast, cast_eq]
  clean_types
  eta_reduce
  simp (disch := first | decide | exact fun a _ => meanSq_pos _ a | (intros; norm_num; done) | (intros; positivity)) only
    [h.a1, h.a2, h.a3, h.a4, h.a5, h.a6, h.a7, h.a8, h.a9, mulf_up2, @hostSumCols_up2 8192 1024, @inDim0_up1 8192 1, spread_up2, spread_up1, word_1024, word_one, word_zero, hostDivf_up2, addf_up2, addf_up1, hostRsqrt_up2, @inDim01_col 8192 1024, @inDim01_row 8192 1024, @inDim01_row 8192 5632, @inDim1_up1 1 1024, @inDim1_up1 1 5632, dot_up2 _ dot_pre, dot_up2 _ dot_mid, stackRows_up2, slice_up2, cast_row_up1, negf_up2, exp_up2, stackFive_up2, pad_up2, cast_split_cols (l := 4) (n := 1408) rfl, cast_split_rows (l := 2) (m := 1408) rfl, transpose_up3]
  rfl
theorem V_down : V m c main_v70 = up3 (l := 2) (m := 1408) (n := 1024) fun q j b => A.down (q * 1408 + j) b := by
  unfold V
  simp only [hostOps0, hostOps0_1, hostOps0_2, hostOps0_3, hostOps0_4, List.flatten_cons, List.flatten_nil, List.append_nil, List.cons_append, List.nil_append, concat_stack, stackFive_eq]
  after_reads_simp
  try simp -implicitDefEqProofs only [TRef.toBuf, TRef.ofBuf, cast_cast, cast_eq]
  clean_types
  eta_reduce
  simp (disch := first | decide | exact fun a _ => meanSq_pos _ a | (intros; norm_num; done) | (intros; positivity)) only
    [h.a1, h.a2, h.a3, h.a4, h.a5, h.a6, h.a7, h.a8, h.a9, mulf_up2, @hostSumCols_up2 8192 1024, @inDim0_up1 8192 1, spread_up2, spread_up1, word_1024, word_one, word_zero, hostDivf_up2, addf_up2, addf_up1, hostRsqrt_up2, @inDim01_col 8192 1024, @inDim01_row 8192 1024, @inDim01_row 8192 5632, @inDim1_up1 1 1024, @inDim1_up1 1 5632, dot_up2 _ dot_pre, dot_up2 _ dot_mid, stackRows_up2, slice_up2, cast_row_up1, negf_up2, exp_up2, stackFive_up2, pad_up2, cast_split_cols (l := 4) (n := 1408) rfl, cast_split_rows (l := 2) (m := 1408) rfl, transpose_up3]
  rfl
end Cert.KernelIdeal.Bwd

end

end
-- ==== Proof.Bwd.Finite.lean ====
/- The precondition: arrays without an infinity are arrays of real numbers. -/
module

public import proofs.«01_k».proof.Defs
public import proofs.«01_k».proof.Proof.Bwd.Host

@[expose] public section

noncomputable section

namespace Cert.Lift

open Idealize.ShloMosaic

/-- An extended real whose size is below infinity is a real number. -/
theorem real_of_lt (x : EReal) (h : max x (-x) < ⊤) : ∃ r : ℝ, x = r := by
  induction x with
  | bot => simp at h
  | top => simp at h
  | coe r => exact ⟨r, rfl⟩

/-- The comparison of the sizes of an array's elements with infinity. -/
def below {s : Shape} (h : (⟨0, ![]⟩ : Shape).BroadcastsInDim s (![] : Fin 0 → Fin s.rank)) (x : FVec Ideal s .f32) : IVec s 1 :=
  cmpf .olt (Host.absf x) (broadcastInDim s ![] h (constant (F := Ideal) ⟨0, ![]⟩ .f32 0x7F800000#32))

theorem real_of_below {s : Shape} {h} {x : FVec Ideal s .f32} (e : below h x = fun _ => 1#1) (i : s.Idx) : ∃ r : ℝ, x i = (r : EReal) := by
  have e1 : Ideal.cmp .olt (max (x i) (-(x i))) (Ideal.ofBits .f32 0x7F800000#32) = 1#1 := congrFun e i
  rw [show Ideal.ofBits .f32 0x7F800000#32 = ⊤ by simp [Ideal.ofBits, Ideal.ieee]] at e1
  refine real_of_lt _ ?_
  by_contra hn
  simp [Ideal.cmp, hn] at e1

theorem exists_up1 {n : ℕ} {h} {x : FVec Ideal ⟨1, ![n]⟩ .f32} (e : below h x = fun _ => 1#1) : ∃ f, x = up1 f := by
  classical
  choose r hr using real_of_below e
  refine ⟨fun a => if k : ∃ i : (⟨1, ![n]⟩ : Shape).Idx, (i 0).val = a then r k.choose else 0, funext fun i => ?_⟩
  have k : ∃ j : (⟨1, ![n]⟩ : Shape).Idx, (j 0).val = (i 0).val := ⟨i, rfl⟩
  have hk : k.choose = i := funext fun d => by
    fin_cases d
    exact Fin.ext k.choose_spec
  show _ = ((dite _ _ _ : ℝ) : EReal)
  rw [dif_pos k, hk, hr]

theorem exists_up2 {m n : ℕ} {h} {x : FVec Ideal ⟨2, ![m, n]⟩ .f32} (e : below h x = fun _ => 1#1) : ∃ f, x = up2 f := by
  classical
  choose r hr using real_of_below e
  refine ⟨fun a b => if k : ∃ i : (⟨2, ![m, n]⟩ : Shape).Idx, (i 0).val = a ∧ (i 1).val = b then r k.choose else 0, funext fun i => ?_⟩
  have k : ∃ j : (⟨2, ![m, n]⟩ : Shape).Idx, (j 0).val = (i 0).val ∧ (j 1).val = (i 1).val := ⟨i, rfl, rfl⟩
  have hk : k.choose = i := funext fun d => by
    fin_cases d
    · exact Fin.ext k.choose_spec.1
    · exact Fin.ext k.choose_spec.2
  show _ = ((dite _ _ _ : ℝ) : EReal)
  rw [dif_pos k, hk, hr]

end Cert.Lift

namespace Cert.KernelIdeal.Bwd

open Cert.KernelIdeal Cert.KernelIdeal.Gen Cert.Lift
open Idealize.ShloMosaic

/-- Under the precondition the arguments hold real numbers. -/
theorem exists_holds [Cert.Pre_finite.Facts] (m : (ℓ : Loc nD τ sig) → Buf (Elt Ideal) ℓ) (hpre : Cert.Pre_KernelIdeal_finite m) (c : Dev nD) :
    ∃ A, Holds m c A := by
  obtain ⟨h0, h1, h2, h3, h4, h5, h6, h7, h8, h9⟩ := hpre c
  obtain ⟨f0, e0⟩ := exists_up2 h0
  obtain ⟨f1, e1⟩ := exists_up2 h1
  obtain ⟨f2, e2⟩ := exists_up1 h2
  obtain ⟨f3, e3⟩ := exists_up1 h3
  obtain ⟨f4, e4⟩ := exists_up1 h4
  obtain ⟨f5, e5⟩ := exists_up1 h5
  obtain ⟨f6, e6⟩ := exists_up1 h6
  obtain ⟨f7, e7⟩ := exists_up2 h7
  obtain ⟨f8, e8⟩ := exists_up2 h8
  obtain ⟨f9, e9⟩ := exists_up2 h9
  exact ⟨⟨f0, f1, f2, f3, f4, f5, f6, f7, f8, f9⟩, ⟨e0, e1, e2, e3, e4, e5, e6, e7, e8, e9⟩⟩

end Cert.KernelIdeal.Bwd

end

end
-- ==== Proof.Bwd.Blocks.lean ====
/- The blocks the steps are handed, in real arithmetic: step `n` has the rows of the block `Args.block n`, and every weight. -/
module

public import proofs.«01_k».proof.Proof.Bwd.Host
public import proofs.«01_k».proof.Proof.Bwd.Data
public import Idealize.ShloMosaic.Lib.Pipeline.ValueKit.Geometry

@[expose] public section

set_option maxRecDepth 16384

noncomputable section

namespace Cert.KernelIdeal.Bwd

open Cert.KernelIdeal Cert.KernelIdeal.Gen Cert.Lift Cert.Lift.Args
open Idealize.ShloMosaic Idealize.ShloMosaic.TcCoe Idealize.ShloMosaic.ValueIdx Idealize.SL.Sem

/-- Two arrays at places whose coordinates correspond. -/
theorem up2_at {m n m' n' : ℕ} {f g : ℕ → ℕ → ℝ} {j : (⟨2, ![m, n]⟩ : Shape).Idx} {y : (⟨2, ![m', n']⟩ : Shape).Idx} {a b : ℕ}
    (ha : (j 0).val = a) (hb : (j 1).val = b) (h : f a b = g (y 0).val (y 1).val) : up2 f j = up2 g y := by
  subst ha hb
  exact congrArg _ h
theorem up3_at {l m n l' m' n' : ℕ} {f g : ℕ → ℕ → ℕ → ℝ} {j : (⟨3, ![l, m, n]⟩ : Shape).Idx}
    {y : (⟨3, ![l', m', n']⟩ : Shape).Idx} {q a b : ℕ} (hq : (j 0).val = q) (ha : (j 1).val = a) (hb : (j 2).val = b)
    (h : f q a b = g (y 0).val (y 1).val (y 2).val) : up3 f j = up3 g y := by
  subst hq ha hb
  exact congrArg _ h

/-- Where each window's block lies: the rows from the last block to the first; the weights whole. -/
theorem index_of : ∀ t : Fin cfg0.N,
    win0_0.index t = ![31 - t.val, 0] ∧ win0_1.index t = ![31 - t.val, 0] ∧ win0_2.index t = ![31 - t.val, 0]
    ∧ win0_3.index t = ![0, 31 - t.val, 0] ∧ win0_4.index t = ![0, 31 - t.val, 0] ∧ win0_5.index t = ![0, 0]
    ∧ win0_6.index t = ![0, 0, 0] ∧ win0_7.index t = ![0, 0] ∧ win0_8.index t = ![0, 0, 0]
    ∧ win0_9.index t = ![31 - t.val, 0] ∧ win0_10.index t = ![0, 31 - t.val, 0] ∧ win0_11.index t = ![31 - t.val, 0] := by
  decide +kernel

variable {m : (ℓ : Loc nD τ sig) → Buf (Elt Ideal) ℓ} {c : Dev nD} {A : Args}

theorem blk_0 (h : Holds m c A) (t : Fin cfg0.N) : iblk m c 0 t = up2 (m := 256) (n := 1024) (A.block t.val).dout := by
  funext y
  have e : V m c (Pipeline.arrRef spec0 0) = up2 (m := 8192) (n := 1024) A.dout := (V_main_arg0 m c).trans h.a0
  have i := (index_of t).1
  unfold iblk
  rw [e]
  blk_simp
  refine up2_at ?_ ?_ rfl
  all_goals blk_simp [i]; try (unfold row; omega)
theorem blk_1 (h : Holds m c A) (t : Fin cfg0.N) : iblk m c 1 t = up2 (m := 256) (n := 1024) (A.block t.val).inp := by
  funext y
  have e : V m c (Pipeline.arrRef spec0 1) = up2 (m := 8192) (n := 1024) A.inp := (V_main_arg1 m c).trans h.a1
  have i := (index_of t).2.1
  unfold iblk
  rw [e]
  blk_simp
  refine up2_at ?_ ?_ rfl
  all_goals blk_simp [i]; try (unfold row; omega)
theorem blk_2 (h : Holds m c A) (t : Fin cfg0.N) : iblk m c 2 t = up2 (m := 256) (n := 1024) (A.block t.val).mid := by
  funext y
  have e : V m c (Pipeline.arrRef spec0 2) = up2 (m := 8192) (n := 1024) A.mid := V_mid h
  have i := (index_of t).2.2.1
  unfold iblk
  rw [e]
  blk_simp
  refine up2_at ?_ ?_ rfl
  all_goals blk_simp [i]; try (unfold row; omega)
theorem blk_3 (h : Holds m c A) (t : Fin cfg0.N) : iblk m c 3 t = up3 (l := 4) (m := 256) (n := 1408) (A.block t.val).pre := by
  funext y
  have e : V m c (Pipeline.arrRef spec0 3) = up3 (l := 4) (m := 8192) (n := 1408) (fun q a j => A.pre a (q * 1408 + j)) := V_preq h
  have i := (index_of t).2.2.2.1
  unfold iblk
  rw [e]
  blk_simp
  refine up3_at ?_ ?_ ?_ rfl
  all_goals blk_simp [i]; try (unfold row; omega)
theorem blk_4 (h : Holds m c A) (t : Fin cfg0.N) : iblk m c 4 t = up3 (l := 4) (m := 256) (n := 1408) (A.block t.val).conv := by
  funext y
  have e : V m c (Pipeline.arrRef spec0 4) = up3 (l := 4) (m := 8192) (n := 1408) (fun q a j => A.conv a (q * 1408 + j)) := V_convq h
  have i := (index_of t).2.2.2.2.1
  unfold iblk
  rw [e]
  blk_simp
  refine up3_at ?_ ?_ ?_ rfl
  all_goals blk_simp [i]; try (unfold row; omega)
theorem blk_5 (h : Holds m c A) (t : Fin cfg0.N) : iblk m c 5 t = up2 (m := 8) (n := 1024) (A.block t.val).vec := by
  funext y
  have e : V m c (Pipeline.arrRef spec0 5) = up2 (m := 8) (n := 1024) A.vec := V_vec h
  have i := (index_of t).2.2.2.2.2.1
  unfold iblk
  rw [e]
  blk_simp
  refine up2_at ?_ ?_ rfl
  all_goals blk_simp [i]; try (unfold row; omega)
theorem blk_6 (h : Holds m c A) (t : Fin cfg0.N) : iblk m c 6 t = up3 (l := 4) (m := 1024) (n := 1408) (A.block t.val).up := by
  funext y
  have e : V m c (Pipeline.arrRef spec0 6) = up3 (l := 4) (m := 1024) (n := 1408) (fun q d j => A.up d (q * 1408 + j)) := V_up h
  have i := (index_of t).2.2.2.2.2.2.1
  unfold iblk
  rw [e]
  blk_simp
  refine up3_at ?_ ?_ ?_ rfl
  all_goals blk_simp [i]; try (unfold row; omega)
theorem blk_7 (h : Holds m c A) (t : Fin cfg0.N) : iblk m c 7 t = up2 (m := 3) (n := 5632) (A.block t.val).taps := by
  funext y
  have e : V m c (Pipeline.arrRef spec0 7) = up2 (m := 3) (n := 5632) A.taps := (V_main_arg8 m c).trans h.a8
  have i := (index_of t).2.2.2.2.2.2.2.1
  unfold iblk
  rw [e]
  blk_simp
  refine up2_at ?_ ?_ rfl
  all_goals blk_simp [i]; try (unfold row; omega)
theorem blk_8 (h : Holds m c A) (t : Fin cfg0.N) : iblk m c 8 t = up3 (l := 2) (m := 1408) (n := 1024) (A.block t.val).down := by
  funext y
  have e : V m c (Pipeline.arrRef spec0 8) = up3 (l := 2) (m := 1408) (n := 1024) (fun q j b => A.down (q * 1408 + j) b) := V_down h
  have i := (index_of t).2.2.2.2.2.2.2.2.1
  unfold iblk
  rw [e]
  blk_simp
  refine up3_at ?_ ?_ ?_ rfl
  all_goals blk_simp [i]; try (unfold row; omega)
end Cert.KernelIdeal.Bwd

end

end
-- ==== Proof.Bwd.LiftRead.lean ====
/- What loads read and stores leave, for arrays of real numbers (Lift.lean). -/
module

public import proofs.«01_k».proof.Proof.Bwd.Step
public import proofs.«01_k».proof.Proof.Bwd.LiftShape

@[expose] public section

noncomputable section

namespace Cert.Lift

open Idealize.ShloMosaic

variable {sig : RefSig} {κ : Kind} {sp : Space} {l m n p q r : ℕ}

/-! ## Loads of a box -/

theorem readAt2_f32 (mr : Memref sig κ sp ⟨2, ![m, n]⟩ .f32) (h : mr.IsWhole) (f : ℕ → ℕ → ℝ) (o0 o1 : ℕ) (inb) :
    View.readAt (Elt Ideal) mr.view (Rect.unit (s := ⟨2, ![m, n]⟩) ![o0, o1] ![p, q] inb).toLoadRect (h.unread (Val := Elt Ideal) (up2 f))
      = up2 (m := p) (n := q) fun a b => f (o0 + a) (o1 + b) := by
  funext j
  refine (congrFun (h.read_unread (Val := Elt Ideal) (up2 f)) _).trans ?_
  show ((f (o0 + 1 * (j 0).val) (o1 + 1 * (j 1).val) : ℝ) : EReal) = _
  rw [Nat.one_mul, Nat.one_mul]; rfl
theorem readAt3_f32 (mr : Memref sig κ sp ⟨3, ![l, m, n]⟩ .f32) (h : mr.IsWhole) (f : ℕ → ℕ → ℕ → ℝ) (o0 o1 o2 : ℕ) (inb) :
    View.readAt (Elt Ideal) mr.view (Rect.unit (s := ⟨3, ![l, m, n]⟩) ![o0, o1, o2] ![p, q, r] inb).toLoadRect (h.unread (Val := Elt Ideal) (up3 f))
      = up3 (l := p) (m := q) (n := r) fun a b c => f (o0 + a) (o1 + b) (o2 + c) := by
  funext j
  refine (congrFun (h.read_unread (Val := Elt Ideal) (up3 f)) _).trans ?_
  show ((f (o0 + 1 * (j 0).val) (o1 + 1 * (j 1).val) (o2 + 1 * (j 2).val) : ℝ) : EReal) = _
  rw [Nat.one_mul, Nat.one_mul, Nat.one_mul]; rfl
theorem readAt3_bf16 (mr : Memref sig κ sp ⟨3, ![l, m, n]⟩ .bf16) (h : mr.IsWhole) (f : ℕ → ℕ → ℕ → ℝ) (o0 o1 o2 : ℕ) (inb) :
    View.readAt (Elt Ideal) mr.view (Rect.unit (s := ⟨3, ![l, m, n]⟩) ![o0, o1, o2] ![p, q, r] inb).toLoadRect (h.unread (Val := Elt Ideal) (up3 f))
      = up3 (l := p) (m := q) (n := r) fun a b c => f (o0 + a) (o1 + b) (o2 + c) := by
  funext j
  refine (congrFun (h.read_unread (Val := Elt Ideal) (up3 f)) _).trans ?_
  show ((f (o0 + 1 * (j 0).val) (o1 + 1 * (j 1).val) (o2 + 1 * (j 2).val) : ℝ) : EReal) = _
  rw [Nat.one_mul, Nat.one_mul, Nat.one_mul]; rfl

/-! ## A store into a box -/

theorem overlay2 (X : (⟨2, ![m, n]⟩ : Shape).Idx → EReal) (o0 o1 : ℕ) (inb) (f : ℕ → ℕ → ℝ) (i : (⟨2, ![m, n]⟩ : Shape).Idx) :
    (Rect.unit (s := ⟨2, ![m, n]⟩) ![o0, o1] ![p, q] inb).overlay X (up2 (m := p) (n := q) f) i
      = if o0 ≤ (i 0).val ∧ (i 0).val < o0 + p ∧ o1 ≤ (i 1).val ∧ (i 1).val < o1 + q
        then ((f ((i 0).val - o0) ((i 1).val - o1) : ℝ) : EReal) else X i := by
  by_cases hm : i ∈ (Rect.unit (s := ⟨2, ![m, n]⟩) ![o0, o1] ![p, q] inb).set
  · have h := Rect.mem_set_unit.mp hm
    have h0 : o0 ≤ (i 0).val ∧ (i 0).val < o0 + p := h 0
    have h1 : o1 ≤ (i 1).val ∧ (i 1).val < o1 + q := h 1
    rw [if_pos ⟨h0.1, h0.2, h1.1, h1.2⟩]
    obtain ⟨x, rfl⟩ : ∃ x, (Rect.unit (s := ⟨2, ![m, n]⟩) ![o0, o1] ![p, q] inb).emb x = i := LoadRect.exists_idx_of_mem _ hm
    refine (Rect.overlay_emb _ _ _ x).trans ?_
    show ((f (x 0).val (x 1).val : ℝ) : EReal) = ((f ((o0 + 1 * (x 0).val) - o0) ((o1 + 1 * (x 1).val) - o1) : ℝ) : EReal)
    rw [Nat.one_mul, Nat.one_mul, Nat.add_sub_cancel_left, Nat.add_sub_cancel_left]
  · rw [if_neg, Rect.overlay_of_not_mem _ _ _ hm]
    intro hh
    refine hm (Rect.mem_set_unit.mpr fun a => ?_)
    match a with
    | ⟨0, _⟩ => exact ⟨hh.1, hh.2.1⟩
    | ⟨1, _⟩ => exact ⟨hh.2.2.1, hh.2.2.2⟩
theorem overlay3 (X : (⟨3, ![l, m, n]⟩ : Shape).Idx → EReal) (o0 o1 o2 : ℕ) (inb) (f : ℕ → ℕ → ℕ → ℝ) (i : (⟨3, ![l, m, n]⟩ : Shape).Idx) :
    (Rect.unit (s := ⟨3, ![l, m, n]⟩) ![o0, o1, o2] ![p, q, r] inb).overlay X (up3 (l := p) (m := q) (n := r) f) i
      = if o0 ≤ (i 0).val ∧ (i 0).val < o0 + p ∧ o1 ≤ (i 1).val ∧ (i 1).val < o1 + q ∧ o2 ≤ (i 2).val ∧ (i 2).val < o2 + r
        then ((f ((i 0).val - o0) ((i 1).val - o1) ((i 2).val - o2) : ℝ) : EReal) else X i := by
  by_cases hm : i ∈ (Rect.unit (s := ⟨3, ![l, m, n]⟩) ![o0, o1, o2] ![p, q, r] inb).set
  · have h := Rect.mem_set_unit.mp hm
    have h0 : o0 ≤ (i 0).val ∧ (i 0).val < o0 + p := h 0
    have h1 : o1 ≤ (i 1).val ∧ (i 1).val < o1 + q := h 1
    have h2 : o2 ≤ (i 2).val ∧ (i 2).val < o2 + r := h 2
    rw [if_pos ⟨h0.1, h0.2, h1.1, h1.2, h2.1, h2.2⟩]
    obtain ⟨x, rfl⟩ : ∃ x, (Rect.unit (s := ⟨3, ![l, m, n]⟩) ![o0, o1, o2] ![p, q, r] inb).emb x = i := LoadRect.exists_idx_of_mem _ hm
    refine (Rect.overlay_emb _ _ _ x).trans ?_
    show ((f (x 0).val (x 1).val (x 2).val : ℝ) : EReal)
      = ((f ((o0 + 1 * (x 0).val) - o0) ((o1 + 1 * (x 1).val) - o1) ((o2 + 1 * (x 2).val) - o2) : ℝ) : EReal)
    rw [Nat.one_mul, Nat.one_mul, Nat.one_mul, Nat.add_sub_cancel_left, Nat.add_sub_cancel_left, Nat.add_sub_cancel_left]
  · rw [if_neg, Rect.overlay_of_not_mem _ _ _ hm]
    intro hh
    refine hm (Rect.mem_set_unit.mpr fun a => ?_)
    match a with
    | ⟨0, _⟩ => exact ⟨hh.1, hh.2.1⟩
    | ⟨1, _⟩ => exact ⟨hh.2.2.1, hh.2.2.2.1⟩
    | ⟨2, _⟩ => exact ⟨hh.2.2.2.2.1, hh.2.2.2.2.2⟩

/-! ## Lists of stores, last first -/

open Cert.KernelIdeal.Bwd (over)

theorem over_cons2 (X : (⟨2, ![m, n]⟩ : Shape).Idx → EReal) (o0 o1 : ℕ) (inb) (f : ℕ → ℕ → ℝ)
    (L : List (View.Piece (Elt Ideal) ⟨2, ![m, n]⟩ .f32)) (i : (⟨2, ![m, n]⟩ : Shape).Idx) :
    over X (⟨Rect.unit (s := ⟨2, ![m, n]⟩) ![o0, o1] ![p, q] inb, up2 (m := p) (n := q) f⟩ :: L) i
      = if o0 ≤ (i 0).val ∧ (i 0).val < o0 + p ∧ o1 ≤ (i 1).val ∧ (i 1).val < o1 + q
        then ((f ((i 0).val - o0) ((i 1).val - o1) : ℝ) : EReal) else over X L i := overlay2 _ _ _ inb _ _
theorem canon_cons2_f32 (o0 o1 : ℕ) (inb) (f : ℕ → ℕ → ℝ)
    (L : List (View.Piece (Elt Ideal) ⟨2, ![m, n]⟩ .f32)) (i : (⟨2, ![m, n]⟩ : Shape).Idx) :
    View.canon (⟨Rect.unit (s := ⟨2, ![m, n]⟩) ![o0, o1] ![p, q] inb, up2 (m := p) (n := q) f⟩ :: L) i
      = if o0 ≤ (i 0).val ∧ (i 0).val < o0 + p ∧ o1 ≤ (i 1).val ∧ (i 1).val < o1 + q
        then ((f ((i 0).val - o0) ((i 1).val - o1) : ℝ) : EReal) else View.canon L i := overlay2 _ _ _ inb _ _
theorem canon_cons2_bf16 (o0 o1 : ℕ) (inb) (f : ℕ → ℕ → ℝ)
    (L : List (View.Piece (Elt Ideal) ⟨2, ![m, n]⟩ .bf16)) (i : (⟨2, ![m, n]⟩ : Shape).Idx) :
    View.canon (⟨Rect.unit (s := ⟨2, ![m, n]⟩) ![o0, o1] ![p, q] inb, up2 (m := p) (n := q) f⟩ :: L) i
      = if o0 ≤ (i 0).val ∧ (i 0).val < o0 + p ∧ o1 ≤ (i 1).val ∧ (i 1).val < o1 + q
        then ((f ((i 0).val - o0) ((i 1).val - o1) : ℝ) : EReal) else View.canon L i := overlay2 _ _ _ inb _ _
theorem canon_cons3_f32 (o0 o1 o2 : ℕ) (inb) (f : ℕ → ℕ → ℕ → ℝ)
    (L : List (View.Piece (Elt Ideal) ⟨3, ![l, m, n]⟩ .f32)) (i : (⟨3, ![l, m, n]⟩ : Shape).Idx) :
    View.canon (⟨Rect.unit (s := ⟨3, ![l, m, n]⟩) ![o0, o1, o2] ![p, q, r] inb, up3 (l := p) (m := q) (n := r) f⟩ :: L) i
      = if o0 ≤ (i 0).val ∧ (i 0).val < o0 + p ∧ o1 ≤ (i 1).val ∧ (i 1).val < o1 + q ∧ o2 ≤ (i 2).val ∧ (i 2).val < o2 + r
        then ((f ((i 0).val - o0) ((i 1).val - o1) ((i 2).val - o2) : ℝ) : EReal) else View.canon L i := overlay3 _ _ _ _ inb _ _
theorem canon_cons3_bf16 (o0 o1 o2 : ℕ) (inb) (f : ℕ → ℕ → ℕ → ℝ)
    (L : List (View.Piece (Elt Ideal) ⟨3, ![l, m, n]⟩ .bf16)) (i : (⟨3, ![l, m, n]⟩ : Shape).Idx) :
    View.canon (⟨Rect.unit (s := ⟨3, ![l, m, n]⟩) ![o0, o1, o2] ![p, q, r] inb, up3 (l := p) (m := q) (n := r) f⟩ :: L) i
      = if o0 ≤ (i 0).val ∧ (i 0).val < o0 + p ∧ o1 ≤ (i 1).val ∧ (i 1).val < o1 + q ∧ o2 ≤ (i 2).val ∧ (i 2).val < o2 + r
        then ((f ((i 0).val - o0) ((i 1).val - o1) ((i 2).val - o2) : ℝ) : EReal) else View.canon L i := overlay3 _ _ _ _ inb _ _

/-- A load of a box of what stores left, given what they left on the box. -/
theorem readCov2_f32 (v : View sig κ sp ⟨2, ![m, n]⟩ .f32) (L) (o0 o1 : ℕ) (inb) (G : ℕ → ℕ → ℝ)
    (h : ∀ i : (⟨2, ![m, n]⟩ : Shape).Idx, o0 ≤ (i 0).val → (i 0).val < o0 + p → o1 ≤ (i 1).val → (i 1).val < o1 + q →
      View.canon (Val := Elt Ideal) L i = ((G ((i 0).val - o0) ((i 1).val - o1) : ℝ) : EReal)) :
    v.readCov L (Rect.unit (s := ⟨2, ![m, n]⟩) ![o0, o1] ![p, q] inb).toLoadRect = up2 (m := p) (n := q) G := by
  rw [View.readCov_eq_canon']
  funext j
  have hj := h ((Rect.unit (s := ⟨2, ![m, n]⟩) ![o0, o1] ![p, q] inb).toLoadRect.idx j)
  have e0 : (((Rect.unit (s := ⟨2, ![m, n]⟩) ![o0, o1] ![p, q] inb).toLoadRect.idx j) 0).val = o0 + (j 0).val := by
    show o0 + 1 * (j 0).val = _; rw [Nat.one_mul]
  have e1 : (((Rect.unit (s := ⟨2, ![m, n]⟩) ![o0, o1] ![p, q] inb).toLoadRect.idx j) 1).val = o1 + (j 1).val := by
    show o1 + 1 * (j 1).val = _; rw [Nat.one_mul]
  have l0 : (j 0).val < p := (j 0).isLt
  have l1 : (j 1).val < q := (j 1).isLt
  rw [e0, e1, Nat.add_sub_cancel_left, Nat.add_sub_cancel_left] at hj
  exact hj (by omega) (by omega) (by omega) (by omega)
theorem readCov2_bf16 (v : View sig κ sp ⟨2, ![m, n]⟩ .bf16) (L) (o0 o1 : ℕ) (inb) (G : ℕ → ℕ → ℝ)
    (h : ∀ i : (⟨2, ![m, n]⟩ : Shape).Idx, o0 ≤ (i 0).val → (i 0).val < o0 + p → o1 ≤ (i 1).val → (i 1).val < o1 + q →
      View.canon (Val := Elt Ideal) L i = ((G ((i 0).val - o0) ((i 1).val - o1) : ℝ) : EReal)) :
    v.readCov L (Rect.unit (s := ⟨2, ![m, n]⟩) ![o0, o1] ![p, q] inb).toLoadRect = up2 (m := p) (n := q) G := by
  rw [View.readCov_eq_canon']
  funext j
  have hj := h ((Rect.unit (s := ⟨2, ![m, n]⟩) ![o0, o1] ![p, q] inb).toLoadRect.idx j)
  have e0 : (((Rect.unit (s := ⟨2, ![m, n]⟩) ![o0, o1] ![p, q] inb).toLoadRect.idx j) 0).val = o0 + (j 0).val := by
    show o0 + 1 * (j 0).val = _; rw [Nat.one_mul]
  have e1 : (((Rect.unit (s := ⟨2, ![m, n]⟩) ![o0, o1] ![p, q] inb).toLoadRect.idx j) 1).val = o1 + (j 1).val := by
    show o1 + 1 * (j 1).val = _; rw [Nat.one_mul]
  have l0 : (j 0).val < p := (j 0).isLt
  have l1 : (j 1).val < q := (j 1).isLt
  rw [e0, e1, Nat.add_sub_cancel_left, Nat.add_sub_cancel_left] at hj
  exact hj (by omega) (by omega) (by omega) (by omega)
theorem idx3_0 (o0 o1 o2 : ℕ) (inb) (j : (Rect.unit (s := ⟨3, ![l, m, n]⟩) ![o0, o1, o2] ![p, q, r] inb).toLoadRect.shape.Idx) :
    (((Rect.unit (s := ⟨3, ![l, m, n]⟩) ![o0, o1, o2] ![p, q, r] inb).toLoadRect.idx j) 0).val = o0 + (j 0).val := by
  show o0 + 1 * (j 0).val = _; rw [Nat.one_mul]
theorem idx3_1 (o0 o1 o2 : ℕ) (inb) (j : (Rect.unit (s := ⟨3, ![l, m, n]⟩) ![o0, o1, o2] ![p, q, r] inb).toLoadRect.shape.Idx) :
    (((Rect.unit (s := ⟨3, ![l, m, n]⟩) ![o0, o1, o2] ![p, q, r] inb).toLoadRect.idx j) 1).val = o1 + (j 1).val := by
  show o1 + 1 * (j 1).val = _; rw [Nat.one_mul]
theorem idx3_2 (o0 o1 o2 : ℕ) (inb) (j : (Rect.unit (s := ⟨3, ![l, m, n]⟩) ![o0, o1, o2] ![p, q, r] inb).toLoadRect.shape.Idx) :
    (((Rect.unit (s := ⟨3, ![l, m, n]⟩) ![o0, o1, o2] ![p, q, r] inb).toLoadRect.idx j) 2).val = o2 + (j 2).val := by
  show o2 + 1 * (j 2).val = _; rw [Nat.one_mul]
theorem readCov3_f32 (v : View sig κ sp ⟨3, ![l, m, n]⟩ .f32) (L) (o0 o1 o2 : ℕ) (inb) (G : ℕ → ℕ → ℕ → ℝ)
    (h : ∀ i : (⟨3, ![l, m, n]⟩ : Shape).Idx, o0 ≤ (i 0).val → (i 0).val < o0 + p → o1 ≤ (i 1).val → (i 1).val < o1 + q →
      o2 ≤ (i 2).val → (i 2).val < o2 + r →
      View.canon (Val := Elt Ideal) L i = ((G ((i 0).val - o0) ((i 1).val - o1) ((i 2).val - o2) : ℝ) : EReal)) :
    v.readCov L (Rect.unit (s := ⟨3, ![l, m, n]⟩) ![o0, o1, o2] ![p, q, r] inb).toLoadRect = up3 (l := p) (m := q) (n := r) G := by
  rw [View.readCov_eq_canon']
  funext j
  have hj := h ((Rect.unit (s := ⟨3, ![l, m, n]⟩) ![o0, o1, o2] ![p, q, r] inb).toLoadRect.idx j)
  have l0 : (j 0).val < p := (j 0).isLt
  have l1 : (j 1).val < q := (j 1).isLt
  have l2 : (j 2).val < r := (j 2).isLt
  rw [idx3_0, idx3_1, idx3_2, Nat.add_sub_cancel_left, Nat.add_sub_cancel_left, Nat.add_sub_cancel_left] at hj
  exact hj (by omega) (by omega) (by omega) (by omega) (by omega) (by omega)
theorem readCov3_bf16 (v : View sig κ sp ⟨3, ![l, m, n]⟩ .bf16) (L) (o0 o1 o2 : ℕ) (inb) (G : ℕ → ℕ → ℕ → ℝ)
    (h : ∀ i : (⟨3, ![l, m, n]⟩ : Shape).Idx, o0 ≤ (i 0).val → (i 0).val < o0 + p → o1 ≤ (i 1).val → (i 1).val < o1 + q →
      o2 ≤ (i 2).val → (i 2).val < o2 + r →
      View.canon (Val := Elt Ideal) L i = ((G ((i 0).val - o0) ((i 1).val - o1) ((i 2).val - o2) : ℝ) : EReal)) :
    v.readCov L (Rect.unit (s := ⟨3, ![l, m, n]⟩) ![o0, o1, o2] ![p, q, r] inb).toLoadRect = up3 (l := p) (m := q) (n := r) G := by
  rw [View.readCov_eq_canon']
  funext j
  have hj := h ((Rect.unit (s := ⟨3, ![l, m, n]⟩) ![o0, o1, o2] ![p, q, r] inb).toLoadRect.idx j)
  have l0 : (j 0).val < p := (j 0).isLt
  have l1 : (j 1).val < q := (j 1).isLt
  have l2 : (j 2).val < r := (j 2).isLt
  rw [idx3_0, idx3_1, idx3_2, Nat.add_sub_cancel_left, Nat.add_sub_cancel_left, Nat.add_sub_cancel_left] at hj
  exact hj (by omega) (by omega) (by omega) (by omega) (by omega) (by omega)

/-- Two stores side by side in one of two slots, read together. -/
theorem readCov_two (v : View sig κ sp ⟨3, ![2, 256, 512]⟩ .f32) (L) (o w s : ℕ) (inb) (inb1) (inb2) (G : ℕ → ℕ → ℝ)
    (f1 f2 : ℕ → ℕ → ℕ → ℝ) (h1 : ∀ a b k, f1 a b k = G b (o + k)) (h2 : ∀ a b k, f2 a b k = G b k) :
    v.readCov (Val := Elt Ideal) (⟨Rect.unit (s := ⟨3, ![2, 256, 512]⟩) ![s, 0, o] ![1, 256, w] inb1, up3 (l := 1) (m := 256) (n := w) f1⟩
        :: ⟨Rect.unit (s := ⟨3, ![2, 256, 512]⟩) ![s, 0, 0] ![1, 256, o] inb2, up3 (l := 1) (m := 256) (n := o) f2⟩ :: L)
      (Rect.unit (s := ⟨3, ![2, 256, 512]⟩) ![s, 0, 0] ![1, 256, o + w] inb).toLoadRect
      = up3 (l := 1) (m := 256) (n := o + w) fun _ a k => G a k := by
  refine readCov3_f32 _ _ _ _ _ _ _ fun i i0 i0' i1 i1' i2 i2' => ?_
  rw [canon_cons3_f32, canon_cons3_f32]
  split_ifs
  · rw [h1]; exact congrArg _ (congrArg (G _) (by omega))
  · rw [h2]
  · omega

end Cert.Lift
-- ==== Proof.Bwd.Body.lean ====
/- The values of a step of the `ffn_backward` call: `dy` and the gradient of the gated product. -/
module

import all proofs.«01_k».proof.Proof.Bwd.Run
public import proofs.«01_k».proof.Proof.Bwd.Run
public import proofs.«01_k».proof.Proof.Bwd.LiftRead
public import proofs.«01_k».proof.Proof.Bwd.BodySpec

@[expose] public section

set_option maxRecDepth 16384

noncomputable section

namespace Cert.KernelIdeal.Bwd

open Cert.KernelIdeal Cert.KernelIdeal.Gen Cert.Lift
open Idealize.ShloMosaic

theorem dot_256 : dot_S256x1024_S256x1024_S256x256_1_1_0_0_n_n = DotDims.transposedRhs 256 1024 256 := rfl
theorem dot_128 : dot_S256x1024_S128x1024_S256x128_1_1_0_0_n_n = DotDims.transposedRhs 256 1024 128 := rfl
theorem dot_up_256 : dot_S256x1408_S256x1408_S256x256_1_1_0_0_n_n = DotDims.transposedRhs 256 1408 256 := rfl
theorem dot_up_1024 : dot_S256x1408_S1024x1408_S256x1024_1_1_0_0_n_n = DotDims.transposedRhs 256 1408 1024 := rfl

theorem truncf_id {s : Shape} (x : FVec Ideal s .f32) (h) : truncf .bf16 x h = x := rfl
theorem extf_id {s : Shape} (x : FVec Ideal s .bf16) (h) : extf .f32 x h = x := rfl

theorem pay7_up (f : ℕ → ℕ → ℝ) : k0_pay7 (F := Ideal) (up2 f) = up2 fun a _ => invRms f a := by
  have hp : ∀ a : ℕ, 0 < (∑ k ∈ Finset.range 1024, f a k * f a k) / 1024 + eps := fun a =>
    add_pos_of_nonneg_of_pos (div_nonneg (Finset.sum_nonneg fun k _ => mul_self_nonneg _) (by norm_num)) eps_pos
  unfold k0_pay7 k0_pay6
  simp (disch := first | decide | (intros; norm_num; done) | (intros; exact hp _)) only [shapeCast_self, mulf_up2, @sumCols_up2 256 1024, cast_up1_col, broadcast_up2, word_1024, divf_up2, addf_up2, rsqrt_up2]
  rfl
theorem pay8_up (f : ℕ → ℕ → ℝ) : k0_pay8 (F := Ideal) (up2 f) = up2 (unitRow f) := by
  unfold k0_pay8 k0_pay6
  simp only [shapeCast_self, pay7_up, broadcastTo_col, mulf_up2]
  rfl
theorem pay9_up (B : Block) : k0_pay9 (F := Ideal) (up2 B.vec) (up2 B.dout) (up2 B.mid) = up2 B.dMid := by
  unfold k0_pay9 k0_pay4
  simp (disch := first | decide | (intros; norm_num; done)) only [Nat.zero_add, Nat.add_zero, shapeCast_self, truncf_id, slice_up2, mulf_up2, broadcastTo_row, pay8_up, @sumCols_up2 256 1024, cast_up1_col, broadcast_up2, word_1024, divf_up2, broadcastTo_col, subf_up2, pay7_up]
  rfl

variable (B : Block) (c : Dev nD)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S4x256x1408 .bf16) (harg4 : arg4.IsWhole)
  (arg5 : Memref sig .tc .vmem S4x256x1408 .bf16) (harg5 : arg5.IsWhole)
  (arg6 : Memref sig .tc .vmem S8x1024 .f32) (harg6 : arg6.IsWhole)
  (arg7 : Memref sig .tc .vmem S4x1024x1408 .bf16) (harg7 : arg7.IsWhole)
  (arg8 : Memref sig .tc .vmem S3x5632 .f32) (harg8 : arg8.IsWhole)
  (arg9 : Memref sig .tc .vmem S2x1408x1024 .bf16) (harg9 : arg9.IsWhole)
  (arg10 : Memref sig .tc .vmem S256x1024 .f32) (harg10 : arg10.IsWhole)
  (arg11 : Memref sig .tc .vmem S4x256x1408 .bf16) (harg11 : arg11.IsWhole)
  (arg12 : Memref sig .tc .vmem S256x1024 .bf16) (harg12 : arg12.IsWhole)
  (arg13 : Memref sig .tc .vmem S8x1024 .f32) (harg13 : arg13.IsWhole)
  (arg14 : Memref sig .tc .vmem S8x5632 .f32) (harg14 : arg14.IsWhole)
  (arg15 : Memref sig .tc .vmem S4x16x1408 .f32) (harg15 : arg15.IsWhole)
  (arg16 : Memref sig .tc .vmem S2x256x512 .f32) (harg16 : arg16.IsWhole)
  (arg17 : Memref sig .tc .vmem S256x1024 .f32) (harg17 : arg17.IsWhole)

theorem mid_read : run.sl.v38 (F := Ideal) c arg1 harg1 arg3 harg3 arg6 harg6 arg12 (up2 B.dout) (up2 B.mid) (up2 B.vec) = up2 B.dMid := by
  unfold run.sl.v38 run.sl.H11_1
  simp only [readAt2_f32, Nat.zero_add, pay9_up]
  refine readCov2_bf16 _ _ _ _ _ _ fun i h0 h1 h2 h3 => ?_
  rw [canon_cons2_bf16, if_pos ⟨h0, h1, h2, h3⟩]

/-! ## The gradient of the gated product, in six slots of columns -/

theorem prod_read0 : run.sl.v68 (F := Ideal) c arg1 harg1 arg3 harg3 arg6 harg6 arg9 harg9 arg12 arg16 (up2 B.dout) (up2 B.mid) (up2 B.vec) (up3 B.down)
    = up3 fun _ a k => B.dProd 0 a k := by
  unfold run.sl.v68 run.sl.HS1_2 run.sl.r_4 k0_pay10 k0_pay11 k0_pay12
  simp only [mid_read, readAt3_bf16, shapeCast_self, cast_up3_up2, matmulT_up2 _ dot_256, cast_up2_up3, Nat.zero_add, Nat.add_zero]
  exact readCov_two _ _ 256 256 0 _ _ _ (fun a k => B.dProd 0 a k) _ _ (fun a b k => by simp only [Block.dProd, ← Nat.add_assoc, Nat.reduceAdd]) (fun a b k => rfl)
theorem prod_read1 : run.sl.v211 (F := Ideal) c arg1 harg1 arg3 harg3 arg6 harg6 arg9 harg9 arg12 arg16 (up2 B.dout) (up2 B.mid) (up2 B.vec) (up3 B.down)
    = up3 fun _ a k => B.dProd 0 a (512 + k) := by
  unfold run.sl.v211 run.sl.HS1_4 run.sl.r_16 k0_pay32 k0_pay33 k0_pay20
  simp only [mid_read, readAt3_bf16, shapeCast_self, cast_up3_up2, matmulT_up2 _ dot_256, cast_up2_up3, Nat.zero_add, Nat.add_zero]
  exact readCov_two _ _ 256 256 1 _ _ _ (fun a k => B.dProd 0 a (512 + k)) _ _ (fun a b k => by simp only [Block.dProd, ← Nat.add_assoc, Nat.reduceAdd]) (fun a b k => rfl)
theorem prod_read2 : run.sl.v354 (F := Ideal) c arg1 harg1 arg3 harg3 arg6 harg6 arg9 harg9 arg12 arg16 (up2 B.dout) (up2 B.mid) (up2 B.vec) (up3 B.down)
    = up3 fun _ a k => B.dProd 0 a (1024 + k) := by
  unfold run.sl.v354 run.sl.HS1_6 k0_pay50 k0_pay62
  simp only [mid_read, readAt3_bf16, shapeCast_self, cast_up3_up2, matmulT_up2 _ dot_256, matmulT_up2 _ dot_128, cast_up2_up3, Nat.zero_add, Nat.add_zero]
  exact readCov_two _ _ 256 128 0 _ _ _ (fun a k => B.dProd 0 a (1024 + k)) _ _ (fun a b k => by simp only [Block.dProd, ← Nat.add_assoc, Nat.reduceAdd]) (fun a b k => rfl)
theorem prod_read3 : run.sl.v497 (F := Ideal) c arg1 harg1 arg3 harg3 arg6 harg6 arg9 harg9 arg12 arg16 (up2 B.dout) (up2 B.mid) (up2 B.vec) (up3 B.down)
    = up3 fun _ a k => B.dProd 1 a k := by
  unfold run.sl.v497 run.sl.HS1_8 k0_pay78 k0_pay88
  simp only [mid_read, readAt3_bf16, shapeCast_self, cast_up3_up2, matmulT_up2 _ dot_256, matmulT_up2 _ dot_128, cast_up2_up3, Nat.zero_add, Nat.add_zero]
  exact readCov_two _ _ 256 256 1 _ _ _ (fun a k => B.dProd 1 a k) _ _ (fun a b k => by simp only [Block.dProd, ← Nat.add_assoc, Nat.reduceAdd]) (fun a b k => rfl)
theorem prod_read4 : run.sl.v668 (F := Ideal) c arg1 harg1 arg3 harg3 arg6 harg6 arg9 harg9 arg12 arg16 (up2 B.dout) (up2 B.mid) (up2 B.vec) (up3 B.down)
    = up3 fun _ a k => B.dProd 1 a (512 + k) := by
  unfold run.sl.v668 run.sl.HS1_10 run.sl.r_51 k0_pay105 k0_pay118 k0_pay119
  simp only [mid_read, readAt3_bf16, shapeCast_self, cast_up3_up2, matmulT_up2 _ dot_256, matmulT_up2 _ dot_128, cast_up2_up3, Nat.zero_add, Nat.add_zero]
  exact readCov_two _ _ 256 256 0 _ _ _ (fun a k => B.dProd 1 a (512 + k)) _ _ (fun a b k => by simp only [Block.dProd, ← Nat.add_assoc, Nat.reduceAdd]) (fun a b k => rfl)
theorem prod_read5 : run.sl.v825 (F := Ideal) c arg1 harg1 arg3 harg3 arg6 harg6 arg9 harg9 arg12 arg16 (up2 B.dout) (up2 B.mid) (up2 B.vec) (up3 B.down)
    = up3 fun _ a k => B.dProd 1 a (1024 + k) := by
  unfold run.sl.v825 run.sl.HS1_12 run.sl.r_60 k0_pay137 k0_pay138 k0_pay150
  simp only [mid_read, readAt3_bf16, shapeCast_self, cast_up3_up2, matmulT_up2 _ dot_256, matmulT_up2 _ dot_128, cast_up2_up3, Nat.zero_add, Nat.add_zero]
  exact readCov_two _ _ 256 128 1 _ _ _ (fun a k => B.dProd 1 a (1024 + k)) _ _ (fun a b k => by simp only [Block.dProd, ← Nat.add_assoc, Nat.reduceAdd]) (fun a b k => rfl)

end Cert.KernelIdeal.Bwd

end

end
-- ==== Proof.Bwd.BodyConv.lean ====
/- The values of a step of the `ffn_backward` call: the gradient at the convolution's input, column by column of its slots. -/
module

import all proofs.«01_k».proof.Proof.Bwd.Run
public import proofs.«01_k».proof.Proof.Bwd.Body

@[expose] public section

set_option maxRecDepth 16384

noncomputable section

namespace Cert.KernelIdeal.Bwd

open Cert.KernelIdeal Cert.KernelIdeal.Gen Cert.Lift
open Idealize.ShloMosaic

/-- A slot of columns of the convolution's input gradient, as it is stored. -/
def convPiece (B : Block) (q o w : ℕ) (inb : ∀ a, (![q, 0, o] : Fin 3 → ℕ) a + (![1, 256, w] : Fin 3 → ℕ) a ≤ S4x256x1408.size a) : View.Piece (Elt Ideal) S4x256x1408 .bf16 :=
  ⟨Rect.unit (s := S4x256x1408) ![q, 0, o] ![1, 256, w] inb, up3 (l := 1) (m := 256) (n := w) fun _ a k => B.dPre q a (o + k)⟩
theorem canon_convPiece (B : Block) (q o w : ℕ) (inb) (L) (i : S4x256x1408.Idx) :
    View.canon (Val := Elt Ideal) (convPiece B q o w inb :: L) i
      = if (i 0).val = q ∧ o ≤ (i 2).val ∧ (i 2).val < o + w then ((B.dPre (i 0).val (i 1).val (i 2).val : ℝ) : EReal)
        else View.canon L i := by
  have h1 : (i 1).val < 256 := (i 1).isLt
  unfold convPiece
  rw [canon_cons3_bf16]
  split_ifs with h h' h'
  · rw [h'.1]
    exact congrArg _ (congrArg (B.dPre q _) (by omega))
  · omega
  · omega
  · rfl

variable (B : Block) (c : Dev nD)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S4x256x1408 .bf16) (harg4 : arg4.IsWhole)
  (arg5 : Memref sig .tc .vmem S4x256x1408 .bf16) (harg5 : arg5.IsWhole)
  (arg6 : Memref sig .tc .vmem S8x1024 .f32) (harg6 : arg6.IsWhole)
  (arg7 : Memref sig .tc .vmem S4x1024x1408 .bf16) (harg7 : arg7.IsWhole)
  (arg8 : Memref sig .tc .vmem S3x5632 .f32) (harg8 : arg8.IsWhole)
  (arg9 : Memref sig .tc .vmem S2x1408x1024 .bf16) (harg9 : arg9.IsWhole)
  (arg10 : Memref sig .tc .vmem S256x1024 .f32) (harg10 : arg10.IsWhole)
  (arg11 : Memref sig .tc .vmem S4x256x1408 .bf16) (harg11 : arg11.IsWhole)
  (arg12 : Memref sig .tc .vmem S256x1024 .bf16) (harg12 : arg12.IsWhole)
  (arg13 : Memref sig .tc .vmem S8x1024 .f32) (harg13 : arg13.IsWhole)
  (arg14 : Memref sig .tc .vmem S8x5632 .f32) (harg14 : arg14.IsWhole)
  (arg15 : Memref sig .tc .vmem S4x16x1408 .f32) (harg15 : arg15.IsWhole)
  (arg16 : Memref sig .tc .vmem S2x256x512 .f32) (harg16 : arg16.IsWhole)
  (arg17 : Memref sig .tc .vmem S256x1024 .f32) (harg17 : arg17.IsWhole)

theorem conv_even : run.sl.H10_6 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry)
    = [convPiece B 2 1024 384 inb_S4x256x1408_S1x256x384_2_0_1024,
      convPiece B 0 1024 384 inb_S4x256x1408_S1x256x384_0_0_1024,
      convPiece B 2 512 512 inb_S4x256x1408_S1x256x512_2_0_512,
      convPiece B 0 512 512 inb_S4x256x1408_S1x256x512_0_0_512,
      convPiece B 2 0 512 inb_S4x256x1408_S1x256x512_2_0_0,
      convPiece B 0 0 512 inb_S4x256x1408_S1x256x512_0_0_0] := by
  unfold run.sl.H10_6 run.sl.r_40 k0_pay91 run.sl.r_41 run.sl.v432 k0_pay92 k0_pay89 run.sl.r_42 run.sl.r_43 run.sl.r_35 k0_pay77 k0_pay93 run.sl.r_44 k0_pay94 run.sl.r_34 run.sl.r_36 run.sl.r_32 k0_pay73 run.sl.r_33 run.sl.v373 k0_pay79 k0_pay76 k0_pay75 k0_pay74 run.sl.r_31 run.sl.r_24 k0_pay49 run.sl.v289 k0_pay67 k0_pay65 k0_pay66 k0_pay63 run.sl.r_23 run.sl.r_25 k0_pay53 run.sl.r_26 run.sl.r_20 run.sl.r_21 k0_pay44 run.sl.r_22 k0_pay45 k0_pay43 run.sl.v230 k0_pay54 k0_pay51 k0_pay48 k0_pay47 k0_pay46 run.sl.r_11 run.sl.r_8 k0_pay16 k0_pay19 run.sl.v146 run.sl.r_13 k0_pay24 run.sl.r_14 run.sl.r_5 run.sl.r_6 k0_pay14 run.sl.r_7 k0_pay15 k0_pay13 run.sl.r_9 k0_pay17 k0_pay25 k0_pay23 k0_pay21 k0_pay18 run.sl.r_15 k0_pay26 k0_pay95 k0_pay83 k0_pay81 k0_pay82 k0_pay68 k0_pay55 k0_pay38 k0_pay36 k0_pay37 k0_pay34 k0_pay27
  simp (disch := decide) only [prod_read0, prod_read1, prod_read2, readAt3_bf16, readAt3_f32, readAt2_f32, shapeCast_self, cast_up3_up2, cast_up2_up3, Nat.zero_add, Nat.add_zero, extf_id, truncf_id, broadcast_up2, broadcastTo_row, mulf_up2, tanh_up2, addf_up2, subf_up2, concat_stack, stackRows_up2, @shift1_up2 512, @shift1_up2 384, @shift2_up2 512, @shift2_up2 384, slice_up2, word_half, word_one]
  simp only [convPiece, Block.dPre, Block.dLong, Block.dConv, Block.sig, ← Nat.add_assoc, Nat.reduceMul, Nat.reduceAdd, Nat.reduceSub, Nat.zero_add, Nat.reduceLT, if_true, if_false]
theorem conv_odd0 : run.sl.H10_8 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry)
    = convPiece B 3 0 512 inb_S4x256x1408_S1x256x512_3_0_0 ::
      convPiece B 1 0 512 inb_S4x256x1408_S1x256x512_1_0_0 ::
      run.sl.H10_6 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry) := by
  unfold run.sl.H10_8 run.sl.r_46 k0_pay104 run.sl.v589 run.sl.r_49 k0_pay111 k0_pay109 run.sl.r_50 run.sl.r_45 k0_pay103 k0_pay102 k0_pay101 k0_pay100 run.sl.v530 k0_pay112 k0_pay110 k0_pay107 k0_pay124 k0_pay122 k0_pay123 k0_pay120 k0_pay113
  simp (disch := decide) only [prod_read3, readAt3_bf16, readAt3_f32, readAt2_f32, shapeCast_self, cast_up3_up2, cast_up2_up3, Nat.zero_add, Nat.add_zero, extf_id, truncf_id, broadcast_up2, broadcastTo_row, mulf_up2, tanh_up2, addf_up2, subf_up2, concat_stack, stackRows_up2, @shift1_up2 512, @shift1_up2 384, @shift2_up2 512, @shift2_up2 384, slice_up2, word_half, word_one]
  simp only [convPiece, Block.dPre, Block.dLong, Block.dConv, Block.sig, ← Nat.add_assoc, Nat.reduceMul, Nat.reduceAdd, Nat.reduceSub, Nat.zero_add, Nat.reduceLT, if_true, if_false]
theorem conv_odd1 : run.sl.H10_10 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry)
    = convPiece B 3 512 512 inb_S4x256x1408_S1x256x512_3_0_512 ::
      convPiece B 1 512 512 inb_S4x256x1408_S1x256x512_1_0_512 ::
      run.sl.H10_8 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry) := by
  unfold run.sl.H10_10 run.sl.r_65 run.sl.r_59 k0_pay136 run.sl.v746 k0_pay151 run.sl.r_58 k0_pay135 k0_pay134 k0_pay133 k0_pay132 run.sl.v687 k0_pay156 k0_pay154 k0_pay155 k0_pay143 k0_pay141 k0_pay142 k0_pay139
  simp (disch := decide) only [prod_read4, readAt3_bf16, readAt3_f32, readAt2_f32, shapeCast_self, cast_up3_up2, cast_up2_up3, Nat.zero_add, Nat.add_zero, extf_id, truncf_id, broadcast_up2, broadcastTo_row, mulf_up2, tanh_up2, addf_up2, subf_up2, concat_stack, stackRows_up2, @shift1_up2 512, @shift1_up2 384, @shift2_up2 512, @shift2_up2 384, slice_up2, word_half, word_one]
  simp only [convPiece, Block.dPre, Block.dLong, Block.dConv, Block.sig, ← Nat.add_assoc, Nat.reduceMul, Nat.reduceAdd, Nat.reduceSub, Nat.zero_add, Nat.reduceLT, if_true, if_false]
theorem conv_odd2 : run.sl.H10_12 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry)
    = convPiece B 3 1024 384 inb_S4x256x1408_S1x256x384_3_0_1024 ::
      convPiece B 1 1024 384 inb_S4x256x1408_S1x256x384_1_0_1024 ::
      run.sl.H10_10 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry) := by
  unfold run.sl.H10_12 run.sl.r_79 k0_pay183 k0_pay181 run.sl.r_80 run.sl.r_73 k0_pay168 run.sl.v901 k0_pay184 k0_pay182 k0_pay179 run.sl.r_72 run.sl.r_70 k0_pay164 run.sl.r_71 k0_pay167 k0_pay166 k0_pay165 run.sl.v850 k0_pay185 k0_pay174 k0_pay172 k0_pay173 k0_pay170
  simp (disch := decide) only [prod_read5, readAt3_bf16, readAt3_f32, readAt2_f32, shapeCast_self, cast_up3_up2, cast_up2_up3, Nat.zero_add, Nat.add_zero, extf_id, truncf_id, broadcast_up2, broadcastTo_row, mulf_up2, tanh_up2, addf_up2, subf_up2, concat_stack, stackRows_up2, @shift1_up2 512, @shift1_up2 384, @shift2_up2 512, @shift2_up2 384, slice_up2, word_half, word_one]
  simp only [convPiece, Block.dPre, Block.dLong, Block.dConv, Block.sig, ← Nat.add_assoc, Nat.reduceMul, Nat.reduceAdd, Nat.reduceSub, Nat.zero_add, Nat.reduceLT, if_true, if_false]

/-! ## What the stores of the input gradient leave, and what is read of it -/

theorem even_val (i : S4x256x1408.Idx) (h : (i 0).val = 0 ∨ (i 0).val = 2) :
    View.canon (run.sl.H10_6 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry)) i = ((B.dPre (i 0).val (i 1).val (i 2).val : ℝ) : EReal) := by
  have h2 : (i 2).val < 1408 := (i 2).isLt
  rw [conv_even]
  simp only [canon_convPiece]
  split_ifs <;> first | omega | rfl
theorem even_val0 (i : S4x256x1408.Idx) (h : (i 0).val = 0 ∨ (i 0).val = 2) :
    View.canon (run.sl.H10_8 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry)) i = ((B.dPre (i 0).val (i 1).val (i 2).val : ℝ) : EReal) := by
  have h2 : (i 2).val < 1408 := (i 2).isLt
  rw [conv_odd0, canon_convPiece, canon_convPiece]
  split_ifs <;> first | omega | exact even_val _ _ _ _ _ _ _ _ _ _ _ _ _ _ _ _ _ _ i h
theorem even_val1 (i : S4x256x1408.Idx) (h : (i 0).val = 0 ∨ (i 0).val = 2) :
    View.canon (run.sl.H10_10 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry)) i = ((B.dPre (i 0).val (i 1).val (i 2).val : ℝ) : EReal) := by
  have h2 : (i 2).val < 1408 := (i 2).isLt
  rw [conv_odd1, canon_convPiece, canon_convPiece]
  split_ifs <;> first | omega | exact even_val0 _ _ _ _ _ _ _ _ _ _ _ _ _ _ _ _ _ _ i h
theorem even_val2 (i : S4x256x1408.Idx) (h : (i 0).val = 0 ∨ (i 0).val = 2) :
    View.canon (run.sl.H10_12 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry)) i = ((B.dPre (i 0).val (i 1).val (i 2).val : ℝ) : EReal) := by
  have h2 : (i 2).val < 1408 := (i 2).isLt
  rw [conv_odd2, canon_convPiece, canon_convPiece]
  split_ifs <;> first | omega | exact even_val1 _ _ _ _ _ _ _ _ _ _ _ _ _ _ _ _ _ _ i h
theorem conv_val (i : S4x256x1408.Idx) (h : (i 0).val < 4) :
    View.canon (run.sl.H10_12 (F := Ideal) c arg1 harg1 arg3 harg3 arg5 harg5 arg6 harg6 arg8 harg8 arg9 harg9 arg12 arg15 harg15 arg16 (up2 B.dout) (up2 B.mid) (up3 B.conv) (up2 B.vec) (up2 B.taps) (up3 B.down) (up3 B.carry)) i = ((B.dPre (i 0).val (i 1).val (i 2).val : ℝ) : EReal) := by
  have h2 : (i 2).val < 1408 := (i 2).isLt
  by_cases he : (i 0).val = 0 ∨ (i 0).val = 2
  · exact even_val2 _ _ _ _ _ _ _ _ _ _ _ _ _ _ _ _ _ _ i he
  rw [conv_odd2, canon_convPiece, canon_convPiece]
  rw [conv_odd1, canon_convPiece, canon_convPiece, conv_odd0, canon_convPiece, canon_convPiece]
  split_ifs <;> first | omega | rfl
theorem v516_up : run.sl.v516 (F := Ideal) c arg1 harg1 arg3 harg3 arg5 harg5 arg6 harg6 arg8 harg8 arg9 harg9 arg11 arg12 arg15 harg15 arg16 (up2 B.dout) (up2 B.mid) (up3 B.conv) (up2 B.vec) (up2 B.taps) (up3 B.down) (up3 B.carry)
    = up3 fun _ a k => B.dPre 0 a k := by
  unfold run.sl.v516
  refine readCov3_bf16 _ _ _ _ _ _ (fun _ a k => B.dPre 0 a k) fun i h0 h0' h1 h1' h2 h2' => ?_
  have e : (i 0).val = 0 := by omega
  rw [even_val _ _ _ _ _ _ _ _ _ _ _ _ _ _ _ _ _ _ i (by omega), e]; rfl
theorem v521_up : run.sl.v521 (F := Ideal) c arg1 harg1 arg3 harg3 arg5 harg5 arg6 harg6 arg8 harg8 arg9 harg9 arg11 arg12 arg15 harg15 arg16 (up2 B.dout) (up2 B.mid) (up3 B.conv) (up2 B.vec) (up2 B.taps) (up3 B.down) (up3 B.carry)
    = up3 fun _ a k => B.dPre 2 a k := by
  unfold run.sl.v521
  refine readCov3_bf16 _ _ _ _ _ _ (fun _ a k => B.dPre 2 a k) fun i h0 h0' h1 h1' h2 h2' => ?_
  have e : (i 0).val = 2 := by omega
  rw [even_val _ _ _ _ _ _ _ _ _ _ _ _ _ _ _ _ _ _ i (by omega), e]; rfl
theorem v640_up : run.sl.v640 (F := Ideal) c arg1 harg1 arg3 harg3 arg5 harg5 arg6 harg6 arg8 harg8 arg9 harg9 arg11 arg12 arg15 harg15 arg16 (up2 B.dout) (up2 B.mid) (up3 B.conv) (up2 B.vec) (up2 B.taps) (up3 B.down) (up3 B.carry)
    = up3 fun _ a k => B.dPre 0 a k := by
  unfold run.sl.v640
  refine readCov3_bf16 _ _ _ _ _ _ (fun _ a k => B.dPre 0 a k) fun i h0 h0' h1 h1' h2 h2' => ?_
  have e : (i 0).val = 0 := by omega
  rw [even_val0 _ _ _ _ _ _ _ _ _ _ _ _ _ _ _ _ _ _ i (by omega), e]; rfl
theorem v645_up : run.sl.v645 (F := Ideal) c arg1 harg1 arg3 harg3 arg5 harg5 arg6 harg6 arg8 harg8 arg9 harg9 arg11 arg12 arg15 harg15 arg16 (up2 B.dout) (up2 B.mid) (up3 B.conv) (up2 B.vec) (up2 B.taps) (up3 B.down) (up3 B.carry)
    = up3 fun _ a k => B.dPre 2 a k := by
  unfold run.sl.v645
  refine readCov3_bf16 _ _ _ _ _ _ (fun _ a k => B.dPre 2 a k) fun i h0 h0' h1 h1' h2 h2' => ?_
  have e : (i 0).val = 2 := by omega
  rw [even_val0 _ _ _ _ _ _ _ _ _ _ _ _ _ _ _ _ _ _ i (by omega), e]; rfl
theorem v797_up : run.sl.v797 (F := Ideal) c arg1 harg1 arg3 harg3 arg5 harg5 arg6 harg6 arg8 harg8 arg9 harg9 arg11 arg12 arg15 harg15 arg16 (up2 B.dout) (up2 B.mid) (up3 B.conv) (up2 B.vec) (up2 B.taps) (up3 B.down) (up3 B.carry)
    = up3 fun _ a k => B.dPre 0 a k := by
  unfold run.sl.v797
  refine readCov3_bf16 _ _ _ _ _ _ (fun _ a k => B.dPre 0 a k) fun i h0 h0' h1 h1' h2 h2' => ?_
  have e : (i 0).val = 0 := by omega
  rw [even_val1 _ _ _ _ _ _ _ _ _ _ _ _ _ _ _ _ _ _ i (by omega), e]; rfl
theorem v802_up : run.sl.v802 (F := Ideal) c arg1 harg1 arg3 harg3 arg5 harg5 arg6 harg6 arg8 harg8 arg9 harg9 arg11 arg12 arg15 harg15 arg16 (up2 B.dout) (up2 B.mid) (up3 B.conv) (up2 B.vec) (up2 B.taps) (up3 B.down) (up3 B.carry)
    = up3 fun _ a k => B.dPre 2 a k := by
  unfold run.sl.v802
  refine readCov3_bf16 _ _ _ _ _ _ (fun _ a k => B.dPre 2 a k) fun i h0 h0' h1 h1' h2 h2' => ?_
  have e : (i 0).val = 2 := by omega
  rw [even_val1 _ _ _ _ _ _ _ _ _ _ _ _ _ _ _ _ _ _ i (by omega), e]; rfl
theorem v953_up : run.sl.v953 (F := Ideal) c arg1 harg1 arg3 harg3 arg5 harg5 arg6 harg6 arg8 harg8 arg9 harg9 arg11 arg12 arg15 harg15 arg16 (up2 B.dout) (up2 B.mid) (up3 B.conv) (up2 B.vec) (up2 B.taps) (up3 B.down) (up3 B.carry)
    = up3 fun _ a k => B.dPre 1 a k := by
  unfold run.sl.v953
  refine readCov3_bf16 _ _ _ _ _ _ (fun _ a k => B.dPre 1 a k) fun i h0 h0' h1 h1' h2 h2' => ?_
  have e : (i 0).val = 1 := by omega
  rw [conv_val _ _ _ _ _ _ _ _ _ _ _ _ _ _ _ _ _ _ i (by omega), e]; rfl
theorem v959_up : run.sl.v959 (F := Ideal) c arg1 harg1 arg3 harg3 arg5 harg5 arg6 harg6 arg8 harg8 arg9 harg9 arg11 arg12 arg15 harg15 arg16 (up2 B.dout) (up2 B.mid) (up3 B.conv) (up2 B.vec) (up2 B.taps) (up3 B.down) (up3 B.carry)
    = up3 fun _ a k => B.dPre 3 a k := by
  unfold run.sl.v959
  refine readCov3_bf16 _ _ _ _ _ _ (fun _ a k => B.dPre 3 a k) fun i h0 h0' h1 h1' h2 h2' => ?_
  have e : (i 0).val = 3 := by omega
  rw [conv_val _ _ _ _ _ _ _ _ _ _ _ _ _ _ _ _ _ _ i (by omega), e]; rfl

end Cert.KernelIdeal.Bwd

end

end
-- ==== Proof.Bwd.BodyHid.lean ====
/- The values of a step of the `ffn_backward` call: the gradient at the normalised input, and the block's `dx`. -/
module

import all proofs.«01_k».proof.Proof.Bwd.Run
public import proofs.«01_k».proof.Proof.Bwd.BodyConv

@[expose] public section

set_option maxRecDepth 16384

noncomputable section

namespace Cert.KernelIdeal.Bwd

open Cert.KernelIdeal Cert.KernelIdeal.Gen Cert.Lift
open Idealize.ShloMosaic

theorem pay191_up (f : ℕ → ℕ → ℝ) : k0_pay191 (F := Ideal) (up2 f) = up2 fun a _ => invRms f a := by
  have e : k0_pay191 (F := Ideal) (up2 f) = k0_pay7 (up2 f) := by unfold k0_pay7 k0_pay6 k0_pay191; rw [shapeCast_self]
  rw [e, pay7_up]
theorem pay192_up (f : ℕ → ℕ → ℝ) : k0_pay192 (F := Ideal) (up2 f) = up2 (unitRow f) := by
  unfold k0_pay192
  simp only [pay191_up, broadcastTo_col, mulf_up2]; rfl

variable (B : Block) (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S4x256x1408 .bf16) (harg4 : arg4.IsWhole)
  (arg5 : Memref sig .tc .vmem S4x256x1408 .bf16) (harg5 : arg5.IsWhole)
  (arg6 : Memref sig .tc .vmem S8x1024 .f32) (harg6 : arg6.IsWhole)
  (arg7 : Memref sig .tc .vmem S4x1024x1408 .bf16) (harg7 : arg7.IsWhole)
  (arg8 : Memref sig .tc .vmem S3x5632 .f32) (harg8 : arg8.IsWhole)
  (arg9 : Memref sig .tc .vmem S2x1408x1024 .bf16) (harg9 : arg9.IsWhole)
  (arg10 : Memref sig .tc .vmem S256x1024 .f32) (harg10 : arg10.IsWhole)
  (arg11 : Memref sig .tc .vmem S4x256x1408 .bf16) (harg11 : arg11.IsWhole)
  (arg12 : Memref sig .tc .vmem S256x1024 .bf16) (harg12 : arg12.IsWhole)
  (arg13 : Memref sig .tc .vmem S8x1024 .f32) (harg13 : arg13.IsWhole)
  (arg14 : Memref sig .tc .vmem S8x5632 .f32) (harg14 : arg14.IsWhole)
  (arg15 : Memref sig .tc .vmem S4x16x1408 .f32) (harg15 : arg15.IsWhole)
  (arg16 : Memref sig .tc .vmem S2x256x512 .f32) (harg16 : arg16.IsWhole)
  (arg17 : Memref sig .tc .vmem S256x1024 .f32) (harg17 : arg17.IsWhole)
  (hi : ¬ isFirst i) (s w : ℕ → ℕ → ℝ)

theorem hid_read : run.sl.v952 (F := Ideal) c arg1 harg1 arg3 harg3 arg5 harg5 arg6 harg6 arg7 harg7 arg8 harg8 arg9 harg9 arg11 arg12 arg15 harg15 arg16 arg17 (up2 B.dout) (up2 B.mid) (up3 B.conv) (up2 B.vec) (up3 B.up) (up2 B.taps) (up3 B.down) (up3 B.carry) = up2 fun a d => B.dHalf 0 a d + B.dHalf 2 a d := by
  unfold run.sl.v952 run.sl.HS2_4 run.sl.r_55 k0_pay129 run.sl.r_56 k0_pay130 run.sl.r_57 k0_pay169 k0_pay163 k0_pay131 k0_pay106
  simp only [v516_up, v521_up, v640_up, v645_up, v797_up, v802_up, v953_up, v959_up, matmulT_up2 _ dot_up_256, readAt3_bf16, readAt3_f32, readAt2_f32, shapeCast_self, cast_up3_up2, cast_up2_up3, Nat.zero_add, Nat.add_zero, extf_id, truncf_id, broadcast_up2, broadcastTo_row, mulf_up2, tanh_up2, addf_up2, subf_up2, concat_stack, stackRows_up2, @shift1_up2 512, @shift1_up2 384, @shift2_up2 512, @shift2_up2 384, slice_up2, word_half, word_one]
  refine readCov2_f32 _ _ _ _ _ (fun a d => B.dHalf 0 a d + B.dHalf 2 a d) fun i h0 h0' h1 h1' => ?_
  simp only [canon_cons2_f32]
  have e : ∀ o, o ≤ (i 1).val → o + ((i 1).val - o) = (i 1).val := fun o ho => by omega
  split_ifs with g1 g2 g3 g4
  · rw [e _ g1.2.2.1]; rfl
  · rw [e _ g2.2.2.1]; rfl
  · rfl
  · rw [e _ g4.2.2.1]; rfl
  · omega
theorem hid_up : run.sl.r_81 (F := Ideal) c arg1 harg1 arg3 harg3 arg5 harg5 arg6 harg6 arg7 harg7 arg8 harg8 arg9 harg9 arg11 arg12 arg15 harg15 arg16 arg17 (up2 B.dout) (up2 B.mid) (up3 B.conv) (up2 B.vec) (up3 B.up) (up2 B.taps) (up3 B.down) (up3 B.carry) = up2 B.dHid := by
  unfold run.sl.r_81 k0_pay190
  simp only [hid_read, v516_up, v521_up, v640_up, v645_up, v797_up, v802_up, v953_up, v959_up, matmulT_up2 _ dot_up_1024, readAt3_bf16, readAt3_f32, readAt2_f32, shapeCast_self, cast_up3_up2, cast_up2_up3, Nat.zero_add, Nat.add_zero, extf_id, truncf_id, broadcast_up2, broadcastTo_row, mulf_up2, tanh_up2, addf_up2, subf_up2, concat_stack, stackRows_up2, @shift1_up2 512, @shift1_up2 384, @shift2_up2 512, @shift2_up2 384, slice_up2, word_half, word_one]
  rfl
theorem unit_up : run.sl.r_82 (F := Ideal) c arg2 harg2 (up2 B.inp) = up2 (unitRow B.inp) := by
  unfold run.sl.r_82
  simp only [pay192_up, readAt3_bf16, readAt3_f32, readAt2_f32, shapeCast_self, cast_up3_up2, cast_up2_up3, Nat.zero_add, Nat.add_zero, extf_id, truncf_id, broadcast_up2, broadcastTo_row, mulf_up2, tanh_up2, addf_up2, subf_up2, concat_stack, stackRows_up2, @shift1_up2 512, @shift1_up2 384, @shift2_up2 512, @shift2_up2 384, slice_up2, word_half, word_one]
theorem pay193_up (g d : ℕ → ℕ → ℝ) (v : ℕ → ℕ → ℝ) (x1 x2 x3 x4 x5) (f : ℕ → ℕ → ℝ) (h : k0_pay190 (F := Ideal) x1 x2 x3 x4 x5 = up2 g) :
    k0_pay193 (F := Ideal) (up2 v) (up2 d) x1 x2 x3 x4 x5 (up2 f) = up2 fun a b => d a b + unitBack f (fun a b => g a b * v 0 b) a b := by
  unfold k0_pay193
  simp (disch := first | decide | (intros; norm_num; done)) only [h, pay191_up, pay192_up, broadcastTo_col, broadcastTo_row, mulf_up2, @sumCols_up2 256 1024, cast_up1_col, broadcast_up2, word_1024, divf_up2, subf_up2, addf_up2]
  rfl

theorem dx_list : (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi (up2 B.dout) (up2 B.inp) (up2 B.mid) (up3 B.pre) (up3 B.conv) (up2 B.vec) (up3 B.up) (up2 B.taps) (up3 B.down) (up2 s) (up2 w) (up3 B.carry)).1 = [⟨Rect.unit ![0, 0] S256x1024.size inb_S256x1024_S256x1024_0_0, up2 (m := 256) (n := 1024) B.dInp⟩] := by
  have h : run.sl.r_81 (F := Ideal) c arg1 harg1 arg3 harg3 arg5 harg5 arg6 harg6 arg7 harg7 arg8 harg8 arg9 harg9 arg11 arg12 arg15 harg15 arg16 arg17 (up2 B.dout) (up2 B.mid) (up3 B.conv) (up2 B.vec) (up3 B.up) (up2 B.taps) (up3 B.down) (up3 B.carry) = up2 B.dHid := hid_up ..
  unfold run.sl.r_81 at h
  unfold run
  dsimp only
  unfold run.sl.r_1 run.sl.r_2 k0_pay5 k0_pay4
  simp only [readAt2_f32, Nat.zero_add, Nat.add_zero, shapeCast_self, slice_up2, mulf_up2] at h ⊢
  rw [pay193_up _ _ _ _ _ _ _ _ _ h]
  rfl
theorem dxOut_up : dxOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi (up2 B.dout) (up2 B.inp) (up2 B.mid) (up3 B.pre) (up3 B.conv) (up2 B.vec) (up3 B.up) (up2 B.taps) (up3 B.down) (up2 s) (up2 w) (up3 B.carry) = up2 B.dInp := by
  unfold dxOut
  rw [dx_list]
  funext j
  have h0 : (j 0).val < 256 := (j 0).isLt
  have h1 : (j 1).val < 1024 := (j 1).isLt
  rw [canon_cons2_f32, if_pos (by omega)]; rfl
theorem dyOut_up : dyOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi (up2 B.dout) (up2 B.inp) (up2 B.mid) (up3 B.pre) (up3 B.conv) (up2 B.vec) (up3 B.up) (up2 B.taps) (up3 B.down) (up2 s) (up2 w) (up3 B.carry) = up2 B.dMid := by
  unfold dyOut run
  dsimp only
  unfold run.sl.H11_1
  simp only [readAt2_f32, Nat.zero_add, pay9_up]
  funext j
  have h0 : (j 0).val < 256 := (j 0).isLt
  have h1 : (j 1).val < 1024 := (j 1).isLt
  rw [canon_cons2_bf16, if_pos (by omega)]; rfl
theorem daOut_up : daOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi (up2 B.dout) (up2 B.inp) (up2 B.mid) (up3 B.pre) (up3 B.conv) (up2 B.vec) (up3 B.up) (up2 B.taps) (up3 B.down) (up2 s) (up2 w) (up3 B.carry) = up3 B.dPre := by
  unfold daOut run
  dsimp only
  funext j
  apply conv_val
  exact (j 0).isLt

end Cert.KernelIdeal.Bwd

end

end
-- ==== Proof.Bwd.BodySum.lean ====
/- The values of a step of the `ffn_backward` call: the sums over rows and the rows carried on. -/
module

import all proofs.«01_k».proof.Proof.Bwd.Run
public import proofs.«01_k».proof.Proof.Bwd.BodyHid

@[expose] public section

set_option maxRecDepth 16384

noncomputable section

namespace Cert.KernelIdeal.Bwd

open Cert.KernelIdeal Cert.KernelIdeal.Gen Cert.Lift
open Idealize.ShloMosaic

/-- A slot of columns of the rows carried on, as it is stored. -/
def carryPiece (B : Block) (q o w : ℕ) (inb : ∀ a, (![q, 0, o] : Fin 3 → ℕ) a + (![1, 16, w] : Fin 3 → ℕ) a ≤ S4x16x1408.size a) :
    View.Piece (Elt Ideal) S4x16x1408 .f32 :=
  ⟨Rect.unit (s := S4x16x1408) ![q, 0, o] ![1, 16, w] inb, up3 (l := 1) (m := 16) (n := w) fun _ a k => B.dConv q a (o + k)⟩
theorem ite_same {P : Prop} [Decidable P] {x a : EReal} (h : ¬ P → a = x) : (if P then x else a) = x := by
  split_ifs with g
  · rfl
  · exact h g
theorem canon_carryPiece (B : Block) (q o w : ℕ) (inb) (L) (i : S4x16x1408.Idx) :
    View.canon (Val := Elt Ideal) (carryPiece B q o w inb :: L) i
      = if (i 0).val = q ∧ o ≤ (i 2).val ∧ (i 2).val < o + w then ((B.dConv (i 0).val (i 1).val (i 2).val : ℝ) : EReal)
        else View.canon L i := by
  have h1 : (i 1).val < 16 := (i 1).isLt
  unfold carryPiece
  rw [canon_cons3_f32]
  split_ifs with h h' h'
  · rw [h'.1]
    exact congrArg _ (congrArg (B.dConv q _) (by omega))
  · omega
  · omega
  · rfl

variable (B : Block) (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S4x256x1408 .bf16) (harg4 : arg4.IsWhole)
  (arg5 : Memref sig .tc .vmem S4x256x1408 .bf16) (harg5 : arg5.IsWhole)
  (arg6 : Memref sig .tc .vmem S8x1024 .f32) (harg6 : arg6.IsWhole)
  (arg7 : Memref sig .tc .vmem S4x1024x1408 .bf16) (harg7 : arg7.IsWhole)
  (arg8 : Memref sig .tc .vmem S3x5632 .f32) (harg8 : arg8.IsWhole)
  (arg9 : Memref sig .tc .vmem S2x1408x1024 .bf16) (harg9 : arg9.IsWhole)
  (arg10 : Memref sig .tc .vmem S256x1024 .f32) (harg10 : arg10.IsWhole)
  (arg11 : Memref sig .tc .vmem S4x256x1408 .bf16) (harg11 : arg11.IsWhole)
  (arg12 : Memref sig .tc .vmem S256x1024 .bf16) (harg12 : arg12.IsWhole)
  (arg13 : Memref sig .tc .vmem S8x1024 .f32) (harg13 : arg13.IsWhole)
  (arg14 : Memref sig .tc .vmem S8x5632 .f32) (harg14 : arg14.IsWhole)
  (arg15 : Memref sig .tc .vmem S4x16x1408 .f32) (harg15 : arg15.IsWhole)
  (arg16 : Memref sig .tc .vmem S2x256x512 .f32) (harg16 : arg16.IsWhole)
  (arg17 : Memref sig .tc .vmem S256x1024 .f32) (harg17 : arg17.IsWhole)
  (hi : ¬ isFirst i) (s w : ℕ → ℕ → ℝ)

set_option maxHeartbeats 1000000 in
theorem carry_list : (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi (up2 B.dout) (up2 B.inp) (up2 B.mid) (up3 B.pre) (up3 B.conv) (up2 B.vec) (up3 B.up) (up2 B.taps) (up3 B.down) (up2 s) (up2 w) (up3 B.carry)).2.2.2.2.2.1
    = [carryPiece B 3 1024 384 inb_S4x16x1408_S1x16x384_3_0_1024, carryPiece B 1 1024 384 inb_S4x16x1408_S1x16x384_1_0_1024, carryPiece B 3 512 512 inb_S4x16x1408_S1x16x512_3_0_512, carryPiece B 1 512 512 inb_S4x16x1408_S1x16x512_1_0_512, carryPiece B 3 0 512 inb_S4x16x1408_S1x16x512_3_0_0, carryPiece B 1 0 512 inb_S4x16x1408_S1x16x512_1_0_0, carryPiece B 2 1024 384 inb_S4x16x1408_S1x16x384_2_0_1024, carryPiece B 0 1024 384 inb_S4x16x1408_S1x16x384_0_0_1024, carryPiece B 2 512 512 inb_S4x16x1408_S1x16x512_2_0_512, carryPiece B 0 512 512 inb_S4x16x1408_S1x16x512_0_0_512, carryPiece B 2 0 512 inb_S4x16x1408_S1x16x512_2_0_0, carryPiece B 0 0 512 inb_S4x16x1408_S1x16x512_0_0_0] := by
  unfold run
  dsimp only
  unfold run.sl.r_73 k0_pay168 run.sl.r_72 run.sl.r_70 k0_pay164 run.sl.r_71 k0_pay167 k0_pay166 k0_pay165 run.sl.r_66 run.sl.r_59 k0_pay136 k0_pay152 run.sl.r_58 k0_pay135 k0_pay134 k0_pay133 k0_pay132 run.sl.r_46 k0_pay104 run.sl.r_45 k0_pay103 k0_pay102 k0_pay101 k0_pay100 run.sl.r_35 k0_pay77 run.sl.r_37 run.sl.r_32 k0_pay73 run.sl.r_33 k0_pay80 k0_pay76 k0_pay75 k0_pay74 run.sl.r_24 k0_pay49 run.sl.r_20 run.sl.r_21 k0_pay44 run.sl.r_22 k0_pay45 k0_pay43 run.sl.r_11 run.sl.r_8 k0_pay16 k0_pay19 run.sl.r_5 run.sl.r_6 k0_pay14 run.sl.r_7 k0_pay15 k0_pay13 run.sl.r_9 k0_pay17 k0_pay180 k0_pay171 k0_pay153 k0_pay140 k0_pay121 k0_pay108 k0_pay90 k0_pay64 k0_pay52 k0_pay48 k0_pay47 k0_pay46 k0_pay35 k0_pay22 k0_pay18
  simp (maxSteps := 10000000) (disch := decide) only [prod_read0, prod_read1, prod_read2, prod_read3, prod_read4, prod_read5, readAt3_bf16, readAt3_f32, readAt2_f32, shapeCast_self, cast_up3_up2, cast_up2_up3, Nat.zero_add, Nat.add_zero, extf_id, truncf_id, broadcast_up2, broadcastTo_row, mulf_up2, tanh_up2, addf_up2, subf_up2, concat_stack, stackRows_up2, @shift1_up2 512, @shift1_up2 384, @shift2_up2 512, @shift2_up2 384, slice_up2, word_half, word_one]
  simp (maxSteps := 10000000) only [carryPiece, Block.dConv, Block.sig, ← Nat.add_assoc, Nat.reduceMul, Nat.reduceAdd, Nat.reduceSub, Nat.zero_add, Nat.reduceLT, if_true, if_false]
set_option maxHeartbeats 1000000 in
theorem carryOut_up : carryOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi (up2 B.dout) (up2 B.inp) (up2 B.mid) (up3 B.pre) (up3 B.conv) (up2 B.vec) (up3 B.up) (up2 B.taps) (up3 B.down) (up2 s) (up2 w) (up3 B.carry) = up3 B.dConv := by
  unfold carryOut
  rw [carry_list]
  funext j
  have h0 : (j 0).val < 4 := (j 0).isLt
  have h2 : (j 2).val < 1408 := (j 2).isLt
  simp only [canon_carryPiece]
  show _ = ((B.dConv (j 0).val (j 1).val (j 2).val : ℝ) : EReal)
  iterate 12
    refine ite_same ?_
    intro
  exfalso
  omega

theorem sum_list : (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi (up2 B.dout) (up2 B.inp) (up2 B.mid) (up3 B.pre) (up3 B.conv) (up2 B.vec) (up3 B.up) (up2 B.taps) (up3 B.down) (up2 s) (up2 w) (up3 B.carry)).2.2.2.1
    = [⟨Rect.unit ![4, 0] S1x1024.size inb_S8x1024_S1x1024_4_0, up2 (m := 1) (n := 1024) fun _ b => s 4 b + B.dVec 4 b⟩, ⟨Rect.unit ![3, 0] S1x1024.size inb_S8x1024_S1x1024_3_0, up2 (m := 1) (n := 1024) fun _ b => s 3 b + B.dVec 3 b⟩, ⟨Rect.unit ![2, 0] S1x1024.size inb_S8x1024_S1x1024_2_0, up2 (m := 1) (n := 1024) fun _ b => s 2 b + B.dVec 2 b⟩, ⟨Rect.unit ![1, 0] S1x1024.size inb_S8x1024_S1x1024_1_0, up2 (m := 1) (n := 1024) fun _ b => s 1 b + B.dVec 1 b⟩, ⟨Rect.unit ![0, 0] S1x1024.size inb_S8x1024_S1x1024_0_0, up2 (m := 1) (n := 1024) fun _ b => s 0 b + B.dVec 0 b⟩] := by
  unfold run
  dsimp only
  unfold run.sl.r_84 run.sl.v1022 k0_pay201 run.sl.r k0_pay4 run.sl.v1018 run.sl.v1014 run.sl.r_83 run.sl.r_2 run.sl.r_3 k0_pay194 run.sl.v1010 k0_pay200 k0_pay199 k0_pay196 k0_pay198 k0_pay197 k0_pay195
  simp only [hid_up, unit_up, pay8_up, @sumRows_up2 256 1024, cast_up1_row, readAt3_bf16, readAt3_f32, readAt2_f32, shapeCast_self, cast_up3_up2, cast_up2_up3, Nat.zero_add, Nat.add_zero, extf_id, truncf_id, broadcast_up2, broadcastTo_row, mulf_up2, tanh_up2, addf_up2, subf_up2, concat_stack, stackRows_up2, @shift1_up2 512, @shift1_up2 384, @shift2_up2 512, @shift2_up2 384, slice_up2, word_half, word_one]
  simp only [Block.dVec, Nat.reduceEqDiff, OfNat.ofNat_ne_zero, if_true, if_false]
  have e : ∀ f g : ℕ → ℕ → ℝ, (∀ b, f 0 b = g 0 b) → up2 (m := 1) (n := 1024) f = up2 g := fun f g h => by
    funext j
    have h0 : (j 0).val = 0 := by have := (j 0).isLt; exact Nat.lt_one_iff.mp this
    show ((f (j 0).val (j 1).val : ℝ) : EReal) = ((g (j 0).val (j 1).val : ℝ) : EReal)
    rw [h0, h]
  iterate 5 refine congrArg₂ List.cons (congrArg (Sigma.mk _) (e _ _ fun b => rfl)) ?_
  rfl
theorem sumOut_up : sumOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi (up2 B.dout) (up2 B.inp) (up2 B.mid) (up3 B.pre) (up3 B.conv) (up2 B.vec) (up3 B.up) (up2 B.taps) (up3 B.down) (up2 s) (up2 w) (up3 B.carry) = up2 (m := 8) (n := 1024) fun r b => s r b + B.dVec r b := by
  unfold sumOut
  rw [sum_list]
  funext j
  have h0 : (j 0).val < 8 := (j 0).isLt
  have h1 : (j 1).val < 1024 := (j 1).isLt
  have key : ∀ r, r = (j 0).val → (((s r ((j 1).val - 0) + B.dVec r ((j 1).val - 0) : ℝ)) : EReal) = up2 (m := 8) (n := 1024) (fun r b => s r b + B.dVec r b) j := by
    rintro r rfl; rfl
  simp only [over_cons2]
  split_ifs
  iterate 5 exact key _ (by omega)
  show ((s (j 0).val (j 1).val : ℝ) : EReal) = ((s (j 0).val (j 1).val + B.dVec (j 0).val (j 1).val : ℝ) : EReal)
  rw [Block.dVec, if_neg (by omega), if_neg (by omega), if_neg (by omega), if_neg (by omega), if_neg (by omega), add_zero]

end Cert.KernelIdeal.Bwd

end

end
-- ==== Proof.Bwd.BodyTap.lean ====
/- The values of a step of the `ffn_backward` call: the gradient of the taps. -/
module

import all proofs.«01_k».proof.Proof.Bwd.Run
public import proofs.«01_k».proof.Proof.Bwd.BodySum

@[expose] public section

set_option maxRecDepth 16384

noncomputable section

namespace Cert.KernelIdeal.Bwd

open Cert.KernelIdeal Cert.KernelIdeal.Gen Cert.Lift
open Idealize.ShloMosaic

/-- A slot of lanes of the taps' gradient, as it is stored: what was there and the block's part. -/
def tapPiece (B : Block) (w : ℕ → ℕ → ℝ) (r q o n off : ℕ)
    (inb : ∀ a, (![r, off] : Fin 2 → ℕ) a + (![1, n] : Fin 2 → ℕ) a ≤ S8x5632.size a) : View.Piece (Elt Ideal) S8x5632 .f32 :=
  ⟨Rect.unit (s := S8x5632) ![r, off] ![1, n] inb, up2 (m := 1) (n := n) fun a b => w (r + a) (off + b) + B.dTap q r (o + b)⟩
theorem over_tapPiece (B : Block) (w : ℕ → ℕ → ℝ) (r q o n off : ℕ) (inb) (X) (L) (i : S8x5632.Idx)
    (h : off = q * 1408 + o) (h' : o + n ≤ 1408)
    (hL : ((i 0).val = r → ¬ (off ≤ (i 1).val ∧ (i 1).val < off + n)) →
      over (Val := Elt Ideal) X L i = ((w (i 0).val (i 1).val + B.dTap ((i 1).val / 1408) (i 0).val ((i 1).val % 1408) : ℝ) : EReal)) :
    over (Val := Elt Ideal) X (tapPiece B w r q o n off inb :: L) i
      = ((w (i 0).val (i 1).val + B.dTap ((i 1).val / 1408) (i 0).val ((i 1).val % 1408) : ℝ) : EReal) := by
  unfold tapPiece
  rw [over_cons2]
  split_ifs with g
  · obtain rfl : r = (i 0).val := by omega
    rw [show (i 1).val / 1408 = q by omega, show (i 1).val % 1408 = o + ((i 1).val - off) by omega,
      show off + ((i 1).val - off) = (i 1).val by omega, Nat.sub_self, Nat.add_zero]
  · exact hL fun e => by omega

variable (B : Block) (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S4x256x1408 .bf16) (harg4 : arg4.IsWhole)
  (arg5 : Memref sig .tc .vmem S4x256x1408 .bf16) (harg5 : arg5.IsWhole)
  (arg6 : Memref sig .tc .vmem S8x1024 .f32) (harg6 : arg6.IsWhole)
  (arg7 : Memref sig .tc .vmem S4x1024x1408 .bf16) (harg7 : arg7.IsWhole)
  (arg8 : Memref sig .tc .vmem S3x5632 .f32) (harg8 : arg8.IsWhole)
  (arg9 : Memref sig .tc .vmem S2x1408x1024 .bf16) (harg9 : arg9.IsWhole)
  (arg10 : Memref sig .tc .vmem S256x1024 .f32) (harg10 : arg10.IsWhole)
  (arg11 : Memref sig .tc .vmem S4x256x1408 .bf16) (harg11 : arg11.IsWhole)
  (arg12 : Memref sig .tc .vmem S256x1024 .bf16) (harg12 : arg12.IsWhole)
  (arg13 : Memref sig .tc .vmem S8x1024 .f32) (harg13 : arg13.IsWhole)
  (arg14 : Memref sig .tc .vmem S8x5632 .f32) (harg14 : arg14.IsWhole)
  (arg15 : Memref sig .tc .vmem S4x16x1408 .f32) (harg15 : arg15.IsWhole)
  (arg16 : Memref sig .tc .vmem S2x256x512 .f32) (harg16 : arg16.IsWhole)
  (arg17 : Memref sig .tc .vmem S256x1024 .f32) (harg17 : arg17.IsWhole)
  (hi : ¬ isFirst i) (s w : ℕ → ℕ → ℝ)

set_option maxHeartbeats 1000000 in
theorem tap_list : (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi (up2 B.dout) (up2 B.inp) (up2 B.mid) (up3 B.pre) (up3 B.conv) (up2 B.vec) (up3 B.up) (up2 B.taps) (up3 B.down) (up2 s) (up2 w) (up3 B.carry)).2.2.2.2.1
    = [tapPiece B w 2 3 1024 384 5248 inb_S8x5632_S1x384_2_5248, tapPiece B w 1 3 1024 384 5248 inb_S8x5632_S1x384_1_5248, tapPiece B w 0 3 1024 384 5248 inb_S8x5632_S1x384_0_5248, tapPiece B w 2 1 1024 384 2432 inb_S8x5632_S1x384_2_2432, tapPiece B w 1 1 1024 384 2432 inb_S8x5632_S1x384_1_2432, tapPiece B w 0 1 1024 384 2432 inb_S8x5632_S1x384_0_2432, tapPiece B w 2 3 512 512 4736 inb_S8x5632_S1x512_2_4736, tapPiece B w 1 3 512 512 4736 inb_S8x5632_S1x512_1_4736, tapPiece B w 0 3 512 512 4736 inb_S8x5632_S1x512_0_4736, tapPiece B w 2 1 512 512 1920 inb_S8x5632_S1x512_2_1920, tapPiece B w 1 1 512 512 1920 inb_S8x5632_S1x512_1_1920, tapPiece B w 0 1 512 512 1920 inb_S8x5632_S1x512_0_1920, tapPiece B w 2 3 0 512 4224 inb_S8x5632_S1x512_2_4224, tapPiece B w 1 3 0 512 4224 inb_S8x5632_S1x512_1_4224, tapPiece B w 0 3 0 512 4224 inb_S8x5632_S1x512_0_4224, tapPiece B w 2 1 0 512 1408 inb_S8x5632_S1x512_2_1408, tapPiece B w 1 1 0 512 1408 inb_S8x5632_S1x512_1_1408, tapPiece B w 0 1 0 512 1408 inb_S8x5632_S1x512_0_1408, tapPiece B w 2 2 1024 384 3840 inb_S8x5632_S1x384_2_3840, tapPiece B w 1 2 1024 384 3840 inb_S8x5632_S1x384_1_3840, tapPiece B w 0 2 1024 384 3840 inb_S8x5632_S1x384_0_3840, tapPiece B w 2 0 1024 384 1024 inb_S8x5632_S1x384_2_1024, tapPiece B w 1 0 1024 384 1024 inb_S8x5632_S1x384_1_1024, tapPiece B w 0 0 1024 384 1024 inb_S8x5632_S1x384_0_1024, tapPiece B w 2 2 512 512 3328 inb_S8x5632_S1x512_2_3328, tapPiece B w 1 2 512 512 3328 inb_S8x5632_S1x512_1_3328, tapPiece B w 0 2 512 512 3328 inb_S8x5632_S1x512_0_3328, tapPiece B w 2 0 512 512 512 inb_S8x5632_S1x512_2_512, tapPiece B w 1 0 512 512 512 inb_S8x5632_S1x512_1_512, tapPiece B w 0 0 512 512 512 inb_S8x5632_S1x512_0_512, tapPiece B w 2 2 0 512 2816 inb_S8x5632_S1x512_2_2816, tapPiece B w 1 2 0 512 2816 inb_S8x5632_S1x512_1_2816, tapPiece B w 0 2 0 512 2816 inb_S8x5632_S1x512_0_2816, tapPiece B w 2 0 0 512 0 inb_S8x5632_S1x512_2_0, tapPiece B w 1 0 0 512 0 inb_S8x5632_S1x512_1_0, tapPiece B w 0 0 0 512 0 inb_S8x5632_S1x512_0_0] := by
  unfold run
  dsimp only
  unfold run.sl.v945 run.sl.r_77 k0_pay181 run.sl.v938 run.sl.r_78 run.sl.r_73 k0_pay168 run.sl.v901 k0_pay182 k0_pay179 run.sl.v931 run.sl.r_75 run.sl.v894 run.sl.r_74 k0_pay172 run.sl.v887 run.sl.r_76 run.sl.r_72 run.sl.r_70 k0_pay164 run.sl.r_71 k0_pay167 k0_pay166 k0_pay165 run.sl.v850 run.sl.v880 k0_pay176 k0_pay173 k0_pay170 k0_pay175 run.sl.r_67 run.sl.v790 run.sl.r_68 run.sl.v783 k0_pay159 run.sl.r_69 k0_pay160 k0_pay154 run.sl.r_65 run.sl.r_59 k0_pay136 run.sl.v746 k0_pay151 run.sl.v776 run.sl.r_62 run.sl.v731 run.sl.r_61 k0_pay141 run.sl.v724 run.sl.r_63 run.sl.v717 k0_pay145 run.sl.r_64 run.sl.r_58 k0_pay135 k0_pay134 k0_pay133 k0_pay132 run.sl.v687 k0_pay146 k0_pay142 k0_pay139 k0_pay144 run.sl.r_54 k0_pay125 run.sl.v633 run.sl.r_52 k0_pay122 run.sl.v626 run.sl.r_53 run.sl.r_46 k0_pay104 run.sl.v589 k0_pay123 k0_pay120 run.sl.v619 run.sl.v574 run.sl.r_47 k0_pay109 run.sl.v567 run.sl.r_48 run.sl.r_45 k0_pay103 k0_pay102 k0_pay101 k0_pay100 run.sl.v530 k0_pay110 k0_pay107 run.sl.v560 run.sl.v476 run.sl.r_40 k0_pay91 run.sl.v469 run.sl.r_41 run.sl.r_35 k0_pay77 run.sl.v432 k0_pay92 k0_pay89 run.sl.v462 run.sl.r_34 run.sl.r_38 run.sl.v417 run.sl.r_39 run.sl.v410 k0_pay86 k0_pay81 run.sl.r_36 run.sl.r_32 k0_pay73 run.sl.r_33 run.sl.v373 k0_pay79 k0_pay76 k0_pay75 k0_pay74 run.sl.v403 run.sl.v333 run.sl.r_29 k0_pay65 run.sl.v326 run.sl.r_30 run.sl.r_24 k0_pay49 run.sl.v289 k0_pay66 k0_pay63 run.sl.v319 run.sl.r_27 run.sl.v274 k0_pay59 run.sl.r_28 run.sl.r_23 k0_pay60 run.sl.r_25 k0_pay53 run.sl.v267 run.sl.r_26 run.sl.r_20 run.sl.r_21 k0_pay44 run.sl.r_22 k0_pay45 k0_pay43 run.sl.v230 k0_pay54 k0_pay51 k0_pay48 k0_pay47 k0_pay46 run.sl.v260 run.sl.r_19 run.sl.v190 run.sl.r_17 k0_pay36 run.sl.v183 run.sl.r_18 run.sl.r_11 run.sl.r_8 k0_pay16 k0_pay19 run.sl.v146 k0_pay37 k0_pay34 run.sl.v176 run.sl.r_10 run.sl.v131 run.sl.r_12 k0_pay23 run.sl.v124 run.sl.r_13 run.sl.r_5 run.sl.r_6 k0_pay14 run.sl.r_7 k0_pay15 k0_pay13 run.sl.r_9 k0_pay17 k0_pay24 k0_pay21 k0_pay18 k0_pay189 k0_pay188 k0_pay187 k0_pay186 k0_pay178 k0_pay177 k0_pay162 k0_pay161 k0_pay158 k0_pay155 k0_pay157 k0_pay149 k0_pay148 k0_pay147 k0_pay128 k0_pay127 k0_pay126 k0_pay117 k0_pay116 k0_pay115 k0_pay114 k0_pay99 k0_pay98 k0_pay97 k0_pay96 k0_pay87 k0_pay85 k0_pay82 k0_pay84 k0_pay72 k0_pay71 k0_pay70 k0_pay69 k0_pay61 k0_pay58 k0_pay57 k0_pay56 k0_pay42 k0_pay41 k0_pay40 k0_pay39 k0_pay31 k0_pay30 k0_pay29 k0_pay28
  simp (maxSteps := 10000000) (disch := decide) only [prod_read0, prod_read1, prod_read2, prod_read3, prod_read4, prod_read5, @sumRows_up2 256 512, @sumRows_up2 256 384, cast_up1_row, readAt3_bf16, readAt3_f32, readAt2_f32, shapeCast_self, cast_up3_up2, cast_up2_up3, Nat.zero_add, Nat.add_zero, extf_id, truncf_id, broadcast_up2, broadcastTo_row, mulf_up2, tanh_up2, addf_up2, subf_up2, concat_stack, stackRows_up2, @shift1_up2 512, @shift1_up2 384, @shift2_up2 512, @shift2_up2 384, slice_up2, word_half, word_one]
  simp (maxSteps := 10000000) only [tapPiece, Block.dTap, Block.dLong, Block.dConv, Block.sig, ← Nat.add_assoc, Nat.reduceMul, Nat.reduceAdd, Nat.reduceSub, Nat.zero_add, Nat.reduceLT, Nat.reduceEqDiff, OfNat.ofNat_ne_zero, if_true, if_false]
set_option maxHeartbeats 1000000 in
theorem dwOut_up : dwOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hi (up2 B.dout) (up2 B.inp) (up2 B.mid) (up3 B.pre) (up3 B.conv) (up2 B.vec) (up3 B.up) (up2 B.taps) (up3 B.down) (up2 s) (up2 w) (up3 B.carry) = up2 (m := 8) (n := 5632) fun r l => w r l + B.dTap (l / 1408) r (l % 1408) := by
  unfold dwOut
  rw [tap_list]
  funext j
  have h0 : (j 0).val < 8 := (j 0).isLt
  have h1 : (j 1).val < 5632 := (j 1).isLt
  show _ = ((w (j 0).val (j 1).val + B.dTap ((j 1).val / 1408) (j 0).val ((j 1).val % 1408) : ℝ) : EReal)
  iterate 36
    refine over_tapPiece B w _ _ _ _ _ _ _ _ _ (by decide) (by decide) ?_
    intro
  have hr : (j 0).val = 0 ∨ (j 0).val = 1 ∨ (j 0).val = 2 ∨ 3 ≤ (j 0).val := by omega
  rcases hr with hr | hr | hr | hr
  iterate 3
    exfalso
    simp only [hr, Nat.reduceEqDiff, OfNat.ofNat_ne_zero, OfNat.zero_ne_ofNat, OfNat.one_ne_ofNat, OfNat.ofNat_ne_one, one_ne_zero, zero_ne_one, false_imp_iff, true_imp_iff, forall_const] at *
    omega
  show ((w (j 0).val (j 1).val : ℝ) : EReal) = _
  rw [Block.dTap, if_neg (by clear * - hr; omega), if_neg (by clear * - hr; omega), if_neg (by clear * - hr; omega), add_zero]

end Cert.KernelIdeal.Bwd

end

end
-- ==== Proof.Bwd.After.lean ====
/- What each step leaves, in real arithmetic: the rows of its block of the three gradients of rows, and of the two sums
   the part of the rows done so far. -/
module

public import proofs.«01_k».proof.Proof.Bwd.Blocks
public import proofs.«01_k».proof.Proof.Bwd.BodySum
public import proofs.«01_k».proof.Proof.Bwd.BodyTap

@[expose] public section

set_option maxRecDepth 16384

noncomputable section

namespace Cert.KernelIdeal.Bwd

open Cert.KernelIdeal Cert.KernelIdeal.Gen Cert.Lift Cert.Lift.Args
open Idealize.ShloMosaic Idealize.ShloMosaic.TcCoe Idealize.ShloMosaic.ValueIdx Idealize.SL.Sem

variable {m : (ℓ : Loc nD τ sig) → Buf (Elt Ideal) ℓ} {c : Dev nD} {A : Args}

theorem stepAt_up (h : Holds m c A) (t : Fin cfg0.N) (s w : ℕ → ℕ → ℝ) :
    stepAt m c t (up2 s) (up2 w) (up3 (A.block t.val).carry)
      = (up2 (A.block t.val).dInp, up3 (A.block t.val).dPre, up2 (A.block t.val).dMid,
         up2 fun r b => s r b + (A.block t.val).dVec r b,
         up2 fun r l => w r l + (A.block t.val).dTap (l / 1408) r (l % 1408), up3 (A.block t.val).dConv) := by
  unfold stepAt
  rw [blk_0 h t, blk_1 h t, blk_2 h t, blk_3 h t, blk_4 h t, blk_5 h t, blk_6 h t, blk_7 h t, blk_8 h t]
  have hi := second_not_first
  simp only [Prod.mk.injEq]
  refine ⟨?_, ?_, ?_, ?_, ?_, ?_⟩
  · exact dxOut_up (B := A.block t.val) ..
  · exact daOut_up (B := A.block t.val) ..
  · exact dyOut_up (B := A.block t.val) ..
  · exact sumOut_up (B := A.block t.val) ..
  · exact dwOut_up (B := A.block t.val) ..
  · exact carryOut_up (B := A.block t.val) ..

theorem sums_up (h : Holds m c A) (n : ℕ) (hn : n < 32) :
    (up2 (m := 8) (n := 1024) fun r b => A.dVecOf (upTo n) r b + (A.block n).dVec r b) = up2 (A.dVecOf (upTo (n + 1))) :=
  up2_congr fun r _ b _ => by rw [block_dVec n hn, dVecOf_succ n hn]
theorem taps_up (h : Holds m c A) (n : ℕ) (hn : n < 32) :
    (up2 (m := 8) (n := 5632) fun r l => A.dTapOf (upTo n) r l + (A.block n).dTap (l / 1408) r (l % 1408))
      = up2 (A.dTapOf (upTo (n + 1))) :=
  up2_congr fun r _ l hl => by
    rw [block_dTap n hn (by omega) (by omega), dTapOf_succ n hn, show l / 1408 * 1408 + l % 1408 = l by omega]

theorem after_up (h : Holds m c A) : ∀ (n : ℕ) (hn : n < cfg0.N), after m c n hn
    = (up2 (A.block n).dInp, up3 (A.block n).dPre, up2 (A.block n).dMid, up2 (A.dVecOf (upTo (n + 1))),
       up2 (A.dTapOf (upTo (n + 1))), up3 (A.block n).dConv)
  | 0, hn => by
    have e1 : k0_pay1 (F := Ideal) = up3 (A.block 0).carry := (constant_up3 0#32 (by decide)).trans (up3_congr fun _ _ _ _ _ _ => word_zero)
    have e2 : k0_pay2 (F := Ideal) = up2 (A.dVecOf (upTo 0)) := (constant_up2 0#32 (by decide)).trans (up2_congr fun _ _ _ _ => word_zero.trans (dVecOf_zero _ _).symm)
    have e3 : k0_pay3 (F := Ideal) = up2 (A.dTapOf (upTo 0)) := (constant_up2 0#32 (by decide)).trans (up2_congr fun _ _ _ _ => word_zero.trans (dTapOf_zero _ _).symm)
    unfold after
    rw [e1, e2, e3]
    refine (stepAt_up h ⟨0, hn⟩ _ _).trans ?_
    rw [← sums_up h 0 (by omega), ← taps_up h 0 (by omega)]
  | n + 1, hn => by
    have hn' : n + 1 < 32 := hn
    have e : (up3 (l := 4) (m := 16) (n := 1408) (A.block n).dConv) = up3 (A.block (n + 1)).carry :=
      up3_congr fun q hq a _ k hk => by
        rw [block_dConv n hq hk, show row n = row (n + 1) + 256 by unfold row; omega]
        exact (if_neg (c := n + 1 = 0) (t := (0 : ℝ)) (Nat.succ_ne_zero n)).symm
    unfold after
    rw [after_up h n (Nat.lt_of_succ_lt hn)]
    dsimp only
    rw [e]
    refine (stepAt_up h ⟨n + 1, hn⟩ _ _).trans ?_
    rw [← sums_up h (n + 1) hn', ← taps_up h (n + 1) hn']
end Cert.KernelIdeal.Bwd

end

end
-- ==== Proof.Bwd.Out.lean ====
/- The five results after the run, in real arithmetic. -/
module

public import proofs.«01_k».proof.Proof.Bwd.After

@[expose] public section

set_option maxRecDepth 16384

noncomputable section

namespace Cert.KernelIdeal.Bwd

open Cert.KernelIdeal Cert.KernelIdeal.Gen Cert.Lift Cert.Lift.Args
open Idealize.ShloMosaic Idealize.ShloMosaic.TcCoe Idealize.ShloMosaic.ValueIdx Idealize.SL.Sem
open Idealize.ShloMosaic.Pipeline (Dat Cfg Window)

variable {m : (ℓ : Loc nD τ sig) → Buf (Elt Ideal) ℓ} {c : Dev nD} {A : Args}

/-- The last step. -/
def lastStep : Fin cfg0.N := ⟨31, by rw [show cfg0.N = 32 from N_0]; omega⟩

theorem lt_32 (t : Fin cfg0.N) : t.val < 32 := t.isLt

/-- The gradient of the input. -/
theorem out_9 (h : Holds m c A) : (dats m 0 c).arrAt 9 (cfgs 0).N = up2 (m := 8192) (n := 1024) A.dInp := by
  refine (dats m 0 c).arrAt_eq_of_covers 9 _ (by decide +kernel) fun t hf y => ?_
  have i := (index_of t).2.2.2.2.2.2.2.2.2.1
  have ht := lt_32 t
  blk_simp
  rw [after_9, after_up h]
  symm
  have h0 : (y 0).val < 256 := (y 0).isLt
  have h1 : (y 1).val < 1024 := (y 1).isLt
  refine up2_at (a := row t.val + (y 0).val) (b := (y 1).val) ?_ ?_ (block_dInp t.val ht h0 h1).symm
  all_goals blk_simp [i]; try (unfold row; omega)
/-- The gradient of the first product, its lanes in quarters. -/
theorem out_10 (h : Holds m c A) :
    (dats m 0 c).arrAt 10 (cfgs 0).N = up3 (l := 4) (m := 8192) (n := 1408) fun q a k => A.dPre a (q * 1408 + k) := by
  refine (dats m 0 c).arrAt_eq_of_covers 10 _ (by decide +kernel) fun t hf y => ?_
  have i := (index_of t).2.2.2.2.2.2.2.2.2.2.1
  have ht := lt_32 t
  blk_simp
  rw [after_10, after_up h]
  symm
  have h0 : (y 0).val < 4 := (y 0).isLt
  have h1 : (y 1).val < 256 := (y 1).isLt
  have h2 : (y 2).val < 1408 := (y 2).isLt
  refine up3_at (q := (y 0).val) (a := row t.val + (y 1).val) (b := (y 2).val) ?_ ?_ ?_ (block_dPre t.val ht h0 h1 h2).symm
  all_goals blk_simp [i]; try (unfold row; omega)
/-- The gradient of the second product. -/
theorem out_11 (h : Holds m c A) : (dats m 0 c).arrAt 11 (cfgs 0).N = up2 (m := 8192) (n := 1024) A.dMid := by
  refine (dats m 0 c).arrAt_eq_of_covers 11 _ (by decide +kernel) fun t hf y => ?_
  have i := (index_of t).2.2.2.2.2.2.2.2.2.2.2
  have ht := lt_32 t
  blk_simp
  rw [after_11, after_up h]
  symm
  have h0 : (y 0).val < 256 := (y 0).isLt
  have h1 : (y 1).val < 1024 := (y 1).isLt
  refine up2_at (a := row t.val + (y 0).val) (b := (y 1).val) ?_ ?_ rfl
  all_goals blk_simp [i]; try (unfold row; omega)
/-- The sums over rows. -/
theorem out_12 (h : Holds m c A) : (dats m 0 c).arrAt 12 (cfgs 0).N = up2 (m := 8) (n := 1024) (A.dVecOf (Finset.range 8192)) := by
  refine (dats m 0 c).arrAt_eq_of_after_last 12 lastStep (by decide +kernel) _ fun j => ?_
  blk_simp
  rw [after_12, after_up h]
  show up2 (A.dVecOf (upTo 32)) j = _
  rw [upTo_last]
/-- The gradient of the taps. -/
theorem out_13 (h : Holds m c A) : (dats m 0 c).arrAt 13 (cfgs 0).N = up2 (m := 8) (n := 5632) (A.dTapOf (Finset.range 8192)) := by
  refine (dats m 0 c).arrAt_eq_of_after_last 13 lastStep (by decide +kernel) _ fun j => ?_
  blk_simp
  rw [after_13, after_up h]
  show up2 (A.dTapOf (upTo 32)) j = _
  rw [upTo_last]
end Cert.KernelIdeal.Bwd

end

end
-- ==== Proof.Bwd.RefAlg.lean ====
/- The reference program's way of writing each gradient is the specification's. -/
module

public import proofs.«01_k».proof.Proof.Bwd.Spec
public import proofs.«01_k».proof.Proof.Bwd.LiftFive

@[expose] public section

noncomputable section

namespace Cert.Lift

open Finset

theorem ne_1024 (_ _ : ℕ) : (1024 : ℝ) ≠ 0 := by norm_num
theorem meanSq_ne (f : ℕ → ℕ → ℝ) (a _b : ℕ) : (∑ k ∈ range 1024, f a k * f a k) / 1024 + eps ≠ 0 := (meanSq_pos f a).ne'
theorem one_add_exp_ne (x : ℝ) : 1 + Real.exp x ≠ 0 := (add_pos one_pos (Real.exp_pos x)).ne'

/-- The derivative of the inverted root by its argument. -/
def slope (f : ℕ → ℕ → ℝ) (a : ℕ) : ℝ := -(1 / 2) * (invRms f a / ((∑ k ∈ range 1024, f a k * f a k) / 1024 + eps))
/-- What the inverted root mean square hands back to each element of its row, but for the element itself. -/
def turn (f g : ℕ → ℕ → ℝ) (a : ℕ) : ℝ := (∑ k ∈ range 1024, f a k * g a k) * slope f a / 1024

/-- The gradient through a row over its root mean square, as the reference writes it. -/
theorem back_eq (f g : ℕ → ℕ → ℝ) (a b : ℕ) :
    g a b * invRms f a + f a b * turn f g a + turn f g a * f a b = unitBack f g a b := by
  have hp := meanSq_pos f a
  have hs : invRms f a / ((∑ k ∈ range 1024, f a k * f a k) / 1024 + eps) = invRms f a * (invRms f a * invRms f a) := by
    rw [div_eq_mul_inv]
    congr 1
    unfold invRms
    rw [← mul_inv, Real.mul_self_sqrt hp.le]
  have hsum : ∑ k ∈ range 1024, g a k * unitRow f a k = (∑ k ∈ range 1024, f a k * g a k) * invRms f a := by
    rw [sum_mul]
    exact sum_congr rfl fun k _ => by unfold unitRow; ring
  unfold turn slope unitBack
  rw [hs, hsum]
  unfold unitRow
  ring
theorem unitBack_eq (f g g' : ℕ → ℕ → ℝ) (a b : ℕ) (h : ∀ k, g a k = g' a k) : unitBack f g a b = unitBack f g' a b := by
  unfold unitBack
  rw [h b, sum_congr rfl fun k _ => by rw [h k]]

/-- The logistic function by the hyperbolic tangent. -/
theorem logi_eq (x : ℝ) : logi x = 1 / 2 * Real.tanh (1 / 2 * x) + 1 / 2 := by
  have h1 : 0 < Real.exp (1 / 2 * x) := Real.exp_pos _
  have h2 : Real.exp (-(1 / 2 * x)) = (Real.exp (1 / 2 * x))⁻¹ := Real.exp_neg _
  have h3 : Real.exp (-x) = (Real.exp (1 / 2 * x))⁻¹ * (Real.exp (1 / 2 * x))⁻¹ := by
    rw [← h2, ← Real.exp_add]; ring_nf
  unfold logi
  rw [Real.tanh_eq_sinh_div_cosh, Real.sinh_eq, Real.cosh_eq, h2, h3]
  field_simp
  ring

namespace Args
variable (A : Args)

theorem sig_eq (a l : ℕ) : A.sig a l = logi (A.conv a l) := (logi_eq _).symm

theorem dConv_eq (a l : ℕ) :
    (if l < 2816 then A.dProd a l * A.conv a (2816 + l) * logi (A.conv a l)
        + A.conv a l * (A.dProd a l * A.conv a (2816 + l)) * (logi (A.conv a l) * (1 - logi (A.conv a l)))
      else A.act a (l - 2816) * A.dProd a (l - 2816)) = A.dConv a l := by
  unfold dConv
  split_ifs
  · rw [sig_eq]; ring
  · rw [sig_eq]; unfold act; ring

/-- Rows of a product with shifted rows of zeros below, against the sum over the rows that are there. -/
theorem dPre_eq (a l : ℕ) (ha : a < 8192) :
    (if 2 ≤ 2 + a ∧ 2 + a - 2 < 8192 then A.taps 2 l * A.dConv (2 + a - 2) l else 0)
      + (if 1 ≤ 2 + a ∧ 2 + a - 1 < 8192 then A.taps 1 l * A.dConv (2 + a - 1) l else 0)
      + (if 0 ≤ 2 + a ∧ 2 + a - 0 < 8192 then A.taps 0 l * A.dConv (2 + a - 0) l else 0) = A.dPre a l := by
  unfold dPre dLong
  rw [if_pos (by omega), show 2 + a - 2 = a by omega, show 2 + a - 1 = a + 1 by omega, show 2 + a - 0 = a + 2 by omega]
  congr 1
  · congr 1
    by_cases h : a + 1 < 8192
    · rw [if_pos (by omega), if_pos h]
    · rw [if_neg (by omega), if_neg h, mul_zero]
  · by_cases h : a + 2 < 8192
    · rw [if_pos (by omega), if_pos h]
    · rw [if_neg (by omega), if_neg h, mul_zero]

theorem dInp_eq (a b : ℕ) :
    A.dout a b + A.dHid a b * (1 + A.scale b) * A.gain b * invRms A.inp a
      + A.inp a b * turn A.inp (fun a b => A.dHid a b * (1 + A.scale b) * A.gain b) a
      + turn A.inp (fun a b => A.dHid a b * (1 + A.scale b) * A.gain b) a * A.inp a b = A.dInp a b := by
  unfold dInp
  rw [← unitBack_eq A.inp (fun a b => A.dHid a b * (1 + A.scale b) * A.gain b) _ a b fun k => by ring, ← back_eq]
  ring

/-- A sum against rows read `i` rows higher is the sum of rows read `i` rows lower. -/
theorem sum_shift (d p : ℕ → ℝ) (i n : ℕ) :
    ∑ a ∈ range (i + n), d a * (if a < i then 0 else p (a - i)) = ∑ a ∈ range (i + n), (if a + i < i + n then d (a + i) else 0) * p a := by
  rw [sum_range_add, add_comm i n, sum_range_add]
  rw [sum_eq_zero (s := range i) fun a ha => by rw [if_pos (mem_range.mp ha), mul_zero], zero_add]
  rw [sum_eq_zero (s := range i) (f := fun a => (if n + a + i < n + i then d (n + a + i) else 0) * p (n + a)) fun a ha => by
    rw [if_neg (by omega), zero_mul], add_zero]
  refine sum_congr rfl fun a ha => ?_
  have := mem_range.mp ha
  rw [if_neg (by omega), if_pos (by omega), Nat.add_sub_cancel_left, add_comm i a]

theorem dTap_eq (i l : ℕ) (hi : i < 8) :
    (if i < 3 then (if 2 ≤ i ∧ i - 2 < 1 then ∑ a ∈ range 8192, A.dConv a l * A.padded (a + 2) l else 0)
        + (if 1 ≤ i ∧ i - 1 < 1 then ∑ a ∈ range 8192, A.dConv a l * A.padded (a + 1) l else 0)
        + (if 0 ≤ i ∧ i - 0 < 1 then ∑ a ∈ range 8192, A.dConv a l * A.padded a l else 0)
      else 0) = A.dTapOf (range 8192) i l := by
  have h2 : ∑ a ∈ range 8192, A.dConv a l * A.padded (a + 2) l = ∑ a ∈ range 8192, A.dConv a l * A.pre a l :=
    sum_congr rfl fun a _ => by unfold padded; rw [if_neg (by omega), Nat.add_sub_cancel]
  have h1 : ∑ a ∈ range 8192, A.dConv a l * A.padded (a + 1) l = ∑ a ∈ range 8192, A.dLong (a + 1) l * A.pre a l := by
    refine Eq.trans (sum_congr rfl fun a _ => ?_) (sum_shift (fun a => A.dConv a l) (fun a => A.pre a l) 1 8191)
    unfold padded
    by_cases h : a < 1
    · rw [if_pos (by omega), if_pos h]
    · rw [if_neg (by omega), if_neg h, show a + 1 - 2 = a - 1 by omega]
  have h0 : ∑ a ∈ range 8192, A.dConv a l * A.padded a l = ∑ a ∈ range 8192, A.dLong (a + 2) l * A.pre a l :=
    sum_shift (fun a => A.dConv a l) (fun a => A.pre a l) 2 8190
  unfold dTapOf
  rw [h2, h1, h0]
  obtain rfl | rfl | rfl | h : i = 0 ∨ i = 1 ∨ i = 2 ∨ 3 ≤ i := by omega
  · simp
  · simp
  · simp
  · rw [if_neg (by omega), if_neg (by omega), if_neg (by omega), if_neg (by omega)]

theorem dVec_eq (i b : ℕ) (hi : i < 8) :
    (if i < 5 then (if i = 0 then ∑ a ∈ range 8192, unitRow A.mid a b * (A.gate b * A.dout a b)
        else if i = 1 then ∑ a ∈ range 8192, A.dout a b * (unitRow A.mid a b * A.gain2 b)
        else if i = 2 then ∑ a ∈ range 8192, unitRow A.inp a b * (A.dHid a b * (1 + A.scale b))
        else if i = 3 then ∑ a ∈ range 8192, unitRow A.inp a b * A.gain b * A.dHid a b
        else ∑ a ∈ range 8192, A.dHid a b)
      else 0) = A.dVecOf (range 8192) i b := by
  unfold dVecOf
  obtain rfl | rfl | rfl | rfl | rfl | h : i = 0 ∨ i = 1 ∨ i = 2 ∨ i = 3 ∨ i = 4 ∨ 5 ≤ i := by omega
  on_goal 6 => rw [if_neg (by omega), if_neg (by omega), if_neg (by omega), if_neg (by omega), if_neg (by omega), if_neg (by omega)]
  on_goal 5 => rfl
  all_goals
    simp only [OfNat.ofNat_ne_zero, OfNat.ofNat_ne_one, if_true, if_false, sum_mul, Nat.reduceLT, Nat.reduceEqDiff, one_ne_zero]
    exact sum_congr rfl fun a _ => by ring
end Args

end Cert.Lift

end

end
-- ==== Proof.Bwd.RefFwd.lean ====
/- The reference program's forward lines, in real arithmetic. -/
module

public import proofs.«01_k».proof.Proof.Bwd.RefAlg
public import proofs.«01_k».proof.Proof.Gen.ReferenceIdeal.Read

@[expose] public section

set_option maxRecDepth 16384

noncomputable section

namespace Cert.ReferenceIdeal.Bwd

open Cert.ReferenceIdeal Cert.ReferenceIdeal.Gen Cert.ReferenceIdeal.Read Cert.Lift Cert.Lift.Args
open Idealize.ShloMosaic Idealize.ShloMosaic.ValueIdx Finset

variable (A : Args)

theorem dot_pre : dot_S8192x1024_S1024x5632_S8192x5632_1_0_0_1_n_n = DotDims.plain 8192 1024 5632 := rfl
theorem dot_mid : dot_S8192x2816_S2816x1024_S8192x1024_1_0_0_1_n_n = DotDims.plain 8192 2816 1024 := rfl
/-- The first inverted root mean squares. -/
theorem ref_v9 : val_main_v9 (F := Ideal) (up2 A.inp)
    = up2 (m := 8192) (n := 1) fun a _ => invRms A.inp a := by
  simp (disch := first | decide | assumption | exact ne_1024 | exact fun a _ => meanSq_pos _ a) only [val_main_v9, val_main_v8,
    val_main_v6, val_main_v4, val_main_v3, val_main_v2, val_main_cst_1, val_main_v5, val_main_cst_2, val_main_v7, val_main_cst_3, mulf_up2,
    @hostSumCols_up2 8192 1024, @inDim0_up1 8192 1, spread_up2, word_1024, hostDivf_up2, addf_up2, hostRsqrt_up2]
  rfl
theorem ref_v12 : val_main_v12 (F := Ideal) (up2 A.inp)
    = up2 (m := 8192) (n := 1) fun a _ => slope A.inp a := by
  simp (disch := first | decide | assumption | exact ne_1024 | exact meanSq_ne _) only [val_main_v12, val_main_v11, val_main_cst_4,
    val_main_v10, val_main_v8, val_main_v6, val_main_v4, val_main_v3, val_main_v2, val_main_cst_1, val_main_v5, val_main_cst_2,
    val_main_v7, val_main_cst_3, ref_v9, mulf_up2, @hostSumCols_up2 8192 1024, @inDim0_up1 8192 1, spread_up2, word_1024, word_neg_half,
    hostDivf_up2, addf_up2]
  rfl
theorem ref_v14 : val_main_v14 (F := Ideal) (up2 A.inp)
    = up2 (m := 8192) (n := 1024) (unitRow A.inp) := by
  simp (disch := first | decide | assumption) only [val_main_v14, val_main_v13, ref_v9, @inDim01_col 8192 1024, mulf_up2]
  rfl
theorem ref_v15 : val_main_v15 (F := Ideal) (up1 A.gain)
    = up2 (m := 1) (n := 1024) fun _ b => A.gain b := by
  simp (disch := first | decide | assumption) only [val_main_v15, @inDim1_up1 1 1024]
theorem ref_v17 : val_main_v17 (F := Ideal) (up2 A.inp) (up1 A.gain)
    = up2 (m := 8192) (n := 1024) fun a b => unitRow A.inp a b * A.gain b := by
  simp (disch := first | decide | assumption) only [val_main_v17, val_main_v16, ref_v14, ref_v15, @inDim01_row 8192 1024, mulf_up2]
theorem ref_v20 : val_main_v20 (F := Ideal) (up1 A.scale)
    = up2 (m := 1) (n := 1024) fun _ b => 1 + A.scale b := by
  simp (disch := first | decide | assumption) only [val_main_v20, val_main_v19, val_main_v18, val_main_cst_5, spread_up1, word_one,
    addf_up1, @inDim1_up1 1 1024]
/-- The first product. -/
theorem ref_v27 : val_main_v27 (F := Ideal) (up2 A.inp) (up1 A.gain) (up1 A.scale) (up1 A.shift) (up2 A.up)
    = up2 (m := 8192) (n := 5632) A.pre := by
  simp (disch := first | decide | assumption) only [val_main_v27, val_main_v26, val_main_v25, val_main_v22, val_main_v21, val_main_v24,
    val_main_v23, val_main_v0, val_main_cst, ref_v17, ref_v20, @inDim01_row 8192 1024, @inDim1_up1 1 1024, mulf_up2, addf_up2,
    dot_up2 _ dot_pre, spread_up2, word_zero, add_zero]
  rfl
/-- The rows the convolution reads. -/
theorem ref_v29 : val_main_v29 (F := Ideal) (up2 A.inp) (up1 A.gain) (up1 A.scale) (up1 A.shift) (up2 A.up)
    = up2 (m := 8194) (n := 5632) A.padded := by
  simp (disch := first | decide | assumption) only [val_main_v29, val_main_v28, val_main_cst_6, ref_v27, concat_stack, spread_up2,
    word_zero, stackRows_up2]
  rfl
theorem ref_v33 : val_main_v33 (F := Ideal) (up2 A.inp) (up1 A.gain) (up1 A.scale) (up1 A.shift) (up2 A.up)
    = up2 (m := 8192) (n := 5632) fun a l => A.padded a l := by
  simp (disch := first | decide | assumption) only [val_main_v33, ref_v29, slice_up2, Nat.zero_add, Nat.add_comm 1, Nat.add_comm 2]
theorem ref_v41 : val_main_v41 (F := Ideal) (up2 A.inp) (up1 A.gain) (up1 A.scale) (up1 A.shift) (up2 A.up)
    = up2 (m := 8192) (n := 5632) fun a l => A.padded (a + 1) l := by
  simp (disch := first | decide | assumption) only [val_main_v41, ref_v29, slice_up2, Nat.zero_add, Nat.add_comm 1, Nat.add_comm 2]
theorem ref_v48 : val_main_v48 (F := Ideal) (up2 A.inp) (up1 A.gain) (up1 A.scale) (up1 A.shift) (up2 A.up)
    = up2 (m := 8192) (n := 5632) fun a l => A.padded (a + 2) l := by
  simp (disch := first | decide | assumption) only [val_main_v48, ref_v29, slice_up2, Nat.zero_add, Nat.add_comm 1, Nat.add_comm 2]
theorem ref_v34 : val_main_v34 (F := Ideal) (up2 A.taps)
    = up2 (m := 1) (n := 5632) fun _ l => A.taps 0 l := by
  simp (disch := first | decide | assumption) only [val_main_v34, val_main_v32, val_main_v31, slice_up2, Nat.zero_add, Nat.add_zero,
    cast_row_up1, @inDim1_up1 1 5632]
theorem ref_v42 : val_main_v42 (F := Ideal) (up2 A.taps)
    = up2 (m := 1) (n := 5632) fun _ l => A.taps 1 l := by
  simp (disch := first | decide | assumption) only [val_main_v42, val_main_v40, val_main_v39, slice_up2, Nat.zero_add, Nat.add_zero,
    cast_row_up1, @inDim1_up1 1 5632]
theorem ref_v49 : val_main_v49 (F := Ideal) (up2 A.taps)
    = up2 (m := 1) (n := 5632) fun _ l => A.taps 2 l := by
  simp (disch := first | decide | assumption) only [val_main_v49, val_main_v47, val_main_v46, slice_up2, Nat.zero_add, Nat.add_zero,
    cast_row_up1, @inDim1_up1 1 5632]
/-- The convolution. -/
theorem ref_v52 : val_main_v52 (F := Ideal) (up2 A.inp) (up1 A.gain) (up1 A.scale) (up1 A.shift) (up2 A.up) (up2 A.taps)
    = up2 (m := 8192) (n := 5632) A.conv := by
  simp (disch := first | decide | assumption) only [val_main_v52, val_main_v45, val_main_v38, val_main_v37, val_main_cst_8, val_main_v36,
    val_main_v35, val_main_v44, val_main_v43, val_main_v51, val_main_v50, ref_v34, ref_v33, ref_v42, ref_v41, ref_v49, ref_v48,
    @inDim01_row 8192 5632, mulf_up2, addf_up2, spread_up2, word_zero, zero_add]
  rfl
theorem ref_v53 : val_main_v53 (F := Ideal) (up2 A.inp) (up1 A.gain) (up1 A.scale) (up1 A.shift) (up2 A.up) (up2 A.taps)
    = up2 (m := 8192) (n := 2816) A.conv := by
  simp (disch := first | decide | assumption) only [val_main_v53, ref_v52, slice_up2, Nat.zero_add]
theorem ref_v54 : val_main_v54 (F := Ideal) (up2 A.inp) (up1 A.gain) (up1 A.scale) (up1 A.shift) (up2 A.up) (up2 A.taps)
    = up2 (m := 8192) (n := 2816) fun a f => A.conv a (2816 + f) := by
  simp (disch := first | decide | assumption) only [val_main_v54, ref_v52, slice_up2, Nat.zero_add]
/-- The logistic function of the gate. -/
theorem ref_v55_2 : val_main_v55_2 (F := Ideal) (up2 A.inp) (up1 A.gain) (up1 A.scale) (up1 A.shift) (up2 A.up) (up2 A.taps)
    = up2 (m := 8192) (n := 2816) fun a f => logi (A.conv a f) := by
  simp (disch := first | decide | assumption | exact ne_1024 | exact fun _ _ => one_add_exp_ne _) only [val_main_v55_2, val_main_call0_v4,
    val_main_call0_cst_0, val_main_call0_v3, val_main_call0_v2, val_main_call0_cst, val_main_call0_v1, val_main_call0_v0, ref_v53,
    negf_up2, exp_up2, spread_up2, word_one, addf_up2, hostDivf_up2]
  rfl
theorem ref_v55_1 : val_main_v55_1 (F := Ideal) (up2 A.inp) (up1 A.gain) (up1 A.scale) (up1 A.shift) (up2 A.up) (up2 A.taps)
    = up2 (m := 8192) (n := 2816) fun a f => logi (A.conv a f) * (1 - logi (A.conv a f)) := by
  simp (disch := first | decide | assumption) only [val_main_v55_1, val_main_call0_v7, val_main_call0_v6, val_main_call0_cst_1, ref_v55_2,
    spread_up2, word_one, subf_up2, mulf_up2]
theorem ref_v55_0 : val_main_v55_0 (F := Ideal) (up2 A.inp) (up1 A.gain) (up1 A.scale) (up1 A.shift) (up2 A.up) (up2 A.taps)
    = up2 (m := 8192) (n := 2816) A.act := by
  simp (disch := first | decide | assumption) only [val_main_v55_0, ref_v53, ref_v55_2, mulf_up2]
  rfl
/-- The second product. -/
theorem ref_v58 : val_main_v58 (F := Ideal) (up2 A.inp) (up1 A.gain) (up1 A.scale) (up1 A.shift) (up2 A.up) (up2 A.taps) (up2 A.down)
    = up2 (m := 8192) (n := 1024) A.mid := by
  simp (disch := first | decide | assumption) only [val_main_v58, val_main_v57, val_main_v56, val_main_v1, val_main_cst_0, ref_v55_0,
    ref_v54, mulf_up2, addf_up2, dot_up2 _ dot_mid, spread_up2, word_zero, add_zero]
  rfl
theorem ref_v66 : val_main_v66 (F := Ideal) (up2 A.inp) (up1 A.gain) (up1 A.scale) (up1 A.shift) (up2 A.up) (up2 A.taps) (up2 A.down)
    = up2 (m := 8192) (n := 1) fun a _ => invRms A.mid a := by
  simp (disch := first | decide | assumption | exact ne_1024 | exact fun a _ => meanSq_pos _ a) only [val_main_v66, val_main_v65,
    val_main_v63, val_main_v61, val_main_v60, val_main_v59, val_main_cst_9, val_main_v62, val_main_cst_10, val_main_v64, val_main_cst_11,
    ref_v58, mulf_up2, @hostSumCols_up2 8192 1024, @inDim0_up1 8192 1, spread_up2, word_1024, hostDivf_up2, addf_up2, hostRsqrt_up2]
  rfl
theorem ref_v69 : val_main_v69 (F := Ideal) (up2 A.inp) (up1 A.gain) (up1 A.scale) (up1 A.shift) (up2 A.up) (up2 A.taps) (up2 A.down)
    = up2 (m := 8192) (n := 1) fun a _ => slope A.mid a := by
  simp (disch := first | decide | assumption | exact ne_1024 | exact meanSq_ne _) only [val_main_v69, val_main_v68, val_main_cst_12,
    val_main_v67, val_main_v65, val_main_v63, val_main_v61, val_main_v60, val_main_v59, val_main_cst_9, val_main_v62, val_main_cst_10,
    val_main_v64, val_main_cst_11, ref_v66, ref_v58, mulf_up2, @hostSumCols_up2 8192 1024, @inDim0_up1 8192 1, spread_up2, word_1024,
    word_neg_half, hostDivf_up2, addf_up2]
  rfl
theorem ref_v71 : val_main_v71 (F := Ideal) (up2 A.inp) (up1 A.gain) (up1 A.scale) (up1 A.shift) (up2 A.up) (up2 A.taps) (up2 A.down)
    = up2 (m := 8192) (n := 1024) (unitRow A.mid) := by
  simp (disch := first | decide | assumption) only [val_main_v71, val_main_v70, ref_v58, ref_v66, @inDim01_col 8192 1024, mulf_up2]
  rfl

end Cert.ReferenceIdeal.Bwd

end

end
-- ==== Proof.Bwd.RefBack.lean ====
/- The reference program's gradients of rows, in real arithmetic. -/
module

public import proofs.«01_k».proof.Proof.Bwd.RefFwd

@[expose] public section

set_option maxRecDepth 16384

noncomputable section

namespace Cert.ReferenceIdeal.Bwd

open Cert.ReferenceIdeal Cert.ReferenceIdeal.Gen Cert.ReferenceIdeal.Read Cert.Lift Cert.Lift.Args
open Idealize.ShloMosaic Idealize.ShloMosaic.ValueIdx Finset

variable (A : Args)

theorem dot_dProd : dot_S8192x1024_S2816x1024_S8192x2816_1_1_0_0_n_n = DotDims.transposedRhs 8192 1024 2816 := rfl
theorem dot_dHid : dot_S8192x5632_S1024x5632_S8192x1024_1_1_0_0_n_n = DotDims.transposedRhs 8192 5632 1024 := rfl
theorem ref_v72 : val_main_v72 (F := Ideal) (up1 A.gain2)
    = up2 (m := 1) (n := 1024) fun _ b => A.gain2 b := by
  simp (disch := first | decide | assumption) only [val_main_v72, @inDim1_up1 1 1024]
theorem ref_v79 : val_main_v79 (F := Ideal) (up2 A.dout)
    = up2 (m := 8192) (n := 1024) A.dout := by
  simp (disch := first | decide | assumption) only [val_main_v79, shapeCast_self]
theorem ref_v81 : val_main_v81 (F := Ideal) (up2 A.dout) (up1 A.gate)
    = up2 (m := 8192) (n := 1024) fun a b => A.gate b * A.dout a b := by
  simp (disch := first | decide | assumption) only [val_main_v81, val_main_v80, val_main_v75, ref_v79, @inDim01_row 8192 1024,
    @inDim1_up1 1 1024, mulf_up2]
theorem ref_v90 : val_main_v90 (F := Ideal) (up2 A.dout) (up1 A.gate) (up1 A.gain2)
    = up2 (m := 8192) (n := 1024) fun a b => A.gate b * A.dout a b * A.gain2 b := by
  simp (disch := first | decide | assumption) only [val_main_v90, val_main_v89, ref_v81, ref_v72, @inDim01_row 8192 1024, mulf_up2]
theorem ref_v101 : val_main_v101 (F := Ideal) (up2 A.dout) (up2 A.inp) (up1 A.gain) (up1 A.scale) (up1 A.shift) (up1 A.gate) (up1 A.gain2) (up2 A.up) (up2 A.taps) (up2 A.down)
    = up2 (m := 8192) (n := 1024) fun a _ => turn A.mid (fun a b => A.gate b * A.dout a b * A.gain2 b) a := by
  simp (disch := first | decide | assumption | exact ne_1024) only [val_main_v101, val_main_v100, val_main_v99, val_main_v97, val_main_v94,
    val_main_v93, val_main_v92, val_main_cst_17, val_main_v98, val_main_cst_18, val_main_cst_19, ref_v58, ref_v90, ref_v69, mulf_up2,
    @hostSumCols_up2 8192 1024, @hostSumCols_up2 8192 1, cast_up1_col, sum_range_one, spread_up2, word_1024, hostDivf_up2,
    @inDim0_up1 8192 1024]
  rfl
/-- The gradient of the second product. -/
theorem ref_v105 : val_main_v105 (F := Ideal) (up2 A.dout) (up2 A.inp) (up1 A.gain) (up1 A.scale) (up1 A.shift) (up1 A.gate) (up1 A.gain2) (up2 A.up) (up2 A.taps) (up2 A.down)
    = up2 (m := 8192) (n := 1024) A.dMid := by
  simp (disch := first | decide | assumption) only [val_main_v105, val_main_v103, val_main_v96, val_main_v95, val_main_v102, val_main_v104,
    ref_v90, ref_v66, ref_v58, ref_v101, @inDim01_col 8192 1024, mulf_up2, addf_up2]
  refine up2_congr fun a _ b _ => (back_eq A.mid (fun a b => A.gate b * A.dout a b * A.gain2 b) a b).trans ?_
  exact unitBack_eq _ _ _ a b fun k => by ring
theorem ref_v106 : val_main_v106 (F := Ideal) (up2 A.dout) (up2 A.inp) (up1 A.gain) (up1 A.scale) (up1 A.shift) (up1 A.gate) (up1 A.gain2) (up2 A.up) (up2 A.taps) (up2 A.down)
    = up2 (m := 8192) (n := 2816) A.dProd := by
  simp (disch := first | decide | assumption) only [val_main_v106, ref_v105, dotT_up2 _ dot_dProd]
  rfl
theorem ref_v107 : val_main_v107 (F := Ideal) (up2 A.dout) (up2 A.inp) (up1 A.gain) (up1 A.scale) (up1 A.shift) (up1 A.gate) (up1 A.gain2) (up2 A.up) (up2 A.taps) (up2 A.down)
    = up2 (m := 8192) (n := 2816) fun a f => A.act a f * A.dProd a f := by
  simp (disch := first | decide | assumption) only [val_main_v107, ref_v55_0, ref_v106, mulf_up2]
theorem ref_v109 : val_main_v109 (F := Ideal) (up2 A.dout) (up2 A.inp) (up1 A.gain) (up1 A.scale) (up1 A.shift) (up1 A.gate) (up1 A.gain2) (up2 A.up) (up2 A.taps) (up2 A.down)
    = up2 (m := 8192) (n := 2816) fun a f => A.dProd a f * A.conv a (2816 + f) * logi (A.conv a f)
      + A.conv a f * (A.dProd a f * A.conv a (2816 + f)) * (logi (A.conv a f) * (1 - logi (A.conv a f))) := by
  simp (disch := first | decide | assumption) only [val_main_v109, val_main_call1_v1, val_main_v108, val_main_call1_v2, val_main_call1_v0,
    ref_v106, ref_v54, ref_v55_2, ref_v53, ref_v55_1, mulf_up2, addf_up2]
/-- The gradient of the convolution. -/
theorem ref_v110 : val_main_v110 (F := Ideal) (up2 A.dout) (up2 A.inp) (up1 A.gain) (up1 A.scale) (up1 A.shift) (up1 A.gate) (up1 A.gain2) (up2 A.up) (up2 A.taps) (up2 A.down)
    = up2 (m := 8192) (n := 5632) A.dConv := by
  unfold val_main_v110
  rw [ref_v109, ref_v107, concat_cols (m := 8192) (n := 2816) (l := 2816) (k := 5632)]
  exact up2_congr fun a _ l _ => dConv_eq A a l
/-- The gradient of the first product. -/
theorem ref_v143 : val_main_v143 (F := Ideal) (up2 A.dout) (up2 A.inp) (up1 A.gain) (up1 A.scale) (up1 A.shift) (up1 A.gate) (up1 A.gain2) (up2 A.up) (up2 A.taps) (up2 A.down)
    = up2 (m := 8192) (n := 5632) A.dPre := by
  simp (disch := first | decide | assumption) only [val_main_v143, val_main_v138, val_main_v127, val_main_v117, val_main_v112,
    val_main_v111, val_main_cst_22, val_main_v126, val_main_v121, val_main_v120, val_main_cst_26, val_main_v137, val_main_v132,
    val_main_v131, val_main_cst_30, ref_v49, ref_v110, ref_v42, ref_v34, @inDim01_row 8192 5632, mulf_up2, addf_up2, pad_up2, word_zero,
    slice_up2, Nat.zero_add]
  exact up2_congr fun a ha l _ => dPre_eq A a l ha
theorem ref_v144 : val_main_v144 (F := Ideal) (up2 A.dout) (up2 A.inp) (up1 A.gain) (up1 A.scale) (up1 A.shift) (up1 A.gate) (up1 A.gain2) (up2 A.up) (up2 A.taps) (up2 A.down)
    = up2 (m := 8192) (n := 1024) A.dHid := by
  simp (disch := first | decide | assumption) only [val_main_v144, ref_v143, dotT_up2 _ dot_dHid]
  rfl
theorem ref_v152 : val_main_v152 (F := Ideal) (up2 A.dout) (up2 A.inp) (up1 A.gain) (up1 A.scale) (up1 A.shift) (up1 A.gate) (up1 A.gain2) (up2 A.up) (up2 A.taps) (up2 A.down)
    = up2 (m := 8192) (n := 1024) fun a b => A.dHid a b * (1 + A.scale b) := by
  simp (disch := first | decide | assumption) only [val_main_v152, val_main_v151, ref_v144, ref_v20, @inDim01_row 8192 1024, mulf_up2]
theorem ref_v158 : val_main_v158 (F := Ideal) (up2 A.dout) (up2 A.inp) (up1 A.gain) (up1 A.scale) (up1 A.shift) (up1 A.gate) (up1 A.gain2) (up2 A.up) (up2 A.taps) (up2 A.down)
    = up2 (m := 8192) (n := 1024) fun a b => A.dHid a b * (1 + A.scale b) * A.gain b := by
  simp (disch := first | decide | assumption) only [val_main_v158, val_main_v157, ref_v152, ref_v15, @inDim01_row 8192 1024, mulf_up2]
theorem ref_v170 : val_main_v170 (F := Ideal) (up2 A.dout) (up2 A.inp) (up1 A.gain) (up1 A.scale) (up1 A.shift) (up1 A.gate) (up1 A.gain2) (up2 A.up) (up2 A.taps) (up2 A.down)
    = up2 (m := 8192) (n := 1024) fun a _ => turn A.inp (fun a b => A.dHid a b * (1 + A.scale b) * A.gain b) a := by
  simp (disch := first | decide | assumption | exact ne_1024) only [val_main_v170, val_main_v169, val_main_v168, val_main_v166,
    val_main_v162, val_main_v161, val_main_v160, val_main_cst_38, val_main_v167, val_main_cst_39, val_main_cst_40, ref_v158, ref_v12,
    mulf_up2, @hostSumCols_up2 8192 1024, @hostSumCols_up2 8192 1, cast_up1_col, sum_range_one, spread_up2, word_1024, hostDivf_up2,
    @inDim0_up1 8192 1024]
  rfl

end Cert.ReferenceIdeal.Bwd

end

end
-- ==== Proof.Bwd.RefOut.lean ====
/- The reference program's five results, in real arithmetic. -/
module

public import proofs.«01_k».proof.Proof.Bwd.RefBack

@[expose] public section

set_option maxRecDepth 16384

noncomputable section

namespace Cert.ReferenceIdeal.Bwd

open Cert.ReferenceIdeal Cert.ReferenceIdeal.Gen Cert.ReferenceIdeal.Read Cert.Lift Cert.Lift.Args
open Idealize.ShloMosaic Idealize.ShloMosaic.ValueIdx Finset

variable (A : Args)

/-- The gradient of the input. -/
theorem ref_v174 : val_main_v174 (F := Ideal) (up2 A.dout) (up2 A.inp) (up1 A.gain) (up1 A.scale) (up1 A.shift) (up1 A.gate) (up1 A.gain2) (up2 A.up) (up2 A.taps) (up2 A.down)
    = up2 (m := 8192) (n := 1024) A.dInp := by
  simp (disch := first | decide | assumption) only [val_main_v174, val_main_v172, val_main_v165, val_main_v164, val_main_v163,
    val_main_v171, val_main_v173, ref_v158, ref_v9, ref_v170, @inDim01_col 8192 1024, mulf_up2, addf_up2]
  exact up2_congr fun a _ b _ => dInp_eq A a b
/-- The gradient of the first product, its lanes in quarters. -/
theorem ref_v185 : val_main_v185 (F := Ideal) (up2 A.dout) (up2 A.inp) (up1 A.gain) (up1 A.scale) (up1 A.shift) (up1 A.gate) (up1 A.gain2) (up2 A.up) (up2 A.taps) (up2 A.down)
    = up3 (l := 4) (m := 8192) (n := 1408) fun q a k => A.dPre a (q * 1408 + k) := by
  simp (disch := first | decide | assumption) only [val_main_v185, val_main_v184, val_main_v183, ref_v143,
    cast_split_cols (l := 4) (n := 1408) rfl, transpose_up3]
  rfl
theorem ref_v186 : val_main_v186 (F := Ideal) (up2 A.dout) (up2 A.inp) (up1 A.gain) (up1 A.scale) (up1 A.shift) (up1 A.gate) (up1 A.gain2) (up2 A.up) (up2 A.taps) (up2 A.down)
    = up2 (m := 8192) (n := 1024) A.dMid := by
  simp (disch := first | decide | assumption) only [val_main_v186, ref_v105]
  rfl
theorem ref_v91 : val_main_v91 (F := Ideal) (up2 A.dout) (up2 A.inp) (up1 A.gain) (up1 A.scale) (up1 A.shift) (up1 A.gate) (up2 A.up) (up2 A.taps) (up2 A.down)
    = up1 (n := 1024) fun b => ∑ a ∈ range 8192, unitRow A.mid a b * (A.gate b * A.dout a b) := by
  simp (disch := first | decide | assumption) only [val_main_v91, val_main_v88, val_main_v87, val_main_v86, val_main_cst_15,
    val_main_cst_16, ref_v71, ref_v81, @inDim01_row 8192 1024, mulf_up2, @hostSumRows_up2 8192 1024, @hostSumRows_up2 1 1024, cast_up1_row,
    sum_range_one]
theorem ref_v85 : val_main_v85 (F := Ideal) (up2 A.dout) (up2 A.inp) (up1 A.gain) (up1 A.scale) (up1 A.shift) (up1 A.gain2) (up2 A.up) (up2 A.taps) (up2 A.down)
    = up1 (n := 1024) fun b => ∑ a ∈ range 8192, A.dout a b * (unitRow A.mid a b * A.gain2 b) := by
  simp (disch := first | decide | assumption) only [val_main_v85, val_main_v84, val_main_v83, val_main_v82, val_main_v74, val_main_v73,
    val_main_cst_13, val_main_cst_14, ref_v79, ref_v71, ref_v72, @inDim01_row 8192 1024, mulf_up2, @hostSumRows_up2 8192 1024,
    @hostSumRows_up2 1 1024, cast_up1_row, sum_range_one]
theorem ref_v159 : val_main_v159 (F := Ideal) (up2 A.dout) (up2 A.inp) (up1 A.gain) (up1 A.scale) (up1 A.shift) (up1 A.gate) (up1 A.gain2) (up2 A.up) (up2 A.taps) (up2 A.down)
    = up1 (n := 1024) fun b => ∑ a ∈ range 8192, unitRow A.inp a b * (A.dHid a b * (1 + A.scale b)) := by
  simp (disch := first | decide | assumption) only [val_main_v159, val_main_v156, val_main_v155, val_main_v154, val_main_cst_36,
    val_main_cst_37, ref_v14, ref_v152, @inDim01_row 8192 1024, mulf_up2, @hostSumRows_up2 8192 1024, @hostSumRows_up2 1 1024,
    cast_up1_row, sum_range_one]
theorem ref_v153 : val_main_v153 (F := Ideal) (up2 A.dout) (up2 A.inp) (up1 A.gain) (up1 A.scale) (up1 A.shift) (up1 A.gate) (up1 A.gain2) (up2 A.up) (up2 A.taps) (up2 A.down)
    = up1 (n := 1024) fun b => ∑ a ∈ range 8192, unitRow A.inp a b * A.gain b * A.dHid a b := by
  simp (disch := first | decide | assumption) only [val_main_v153, val_main_v150, val_main_v149, val_main_v148, val_main_cst_34,
    val_main_cst_35, ref_v17, ref_v144, @inDim01_row 8192 1024, mulf_up2, @hostSumRows_up2 8192 1024, @hostSumRows_up2 1 1024,
    cast_up1_row, sum_range_one]
theorem ref_v147 : val_main_v147 (F := Ideal) (up2 A.dout) (up2 A.inp) (up1 A.gain) (up1 A.scale) (up1 A.shift) (up1 A.gate) (up1 A.gain2) (up2 A.up) (up2 A.taps) (up2 A.down)
    = up1 (n := 1024) fun b => ∑ a ∈ range 8192, A.dHid a b := by
  simp (disch := first | decide | assumption) only [val_main_v147, val_main_v146, val_main_v145, val_main_cst_32, val_main_cst_33,
    ref_v144, @inDim01_row 8192 1024, mulf_up2, @hostSumRows_up2 8192 1024, @hostSumRows_up2 1 1024, cast_up1_row, sum_range_one]
theorem ref_v116 : val_main_v116 (F := Ideal) (up2 A.dout) (up2 A.inp) (up1 A.gain) (up1 A.scale) (up1 A.shift) (up1 A.gate) (up1 A.gain2) (up2 A.up) (up2 A.taps) (up2 A.down)
    = up1 (n := 5632) fun l => ∑ a ∈ range 8192, A.dConv a l * A.padded (a + 2) l := by
  simp (disch := first | decide | assumption) only [val_main_v116, val_main_v115, val_main_v114, val_main_v113, val_main_cst_20,
    val_main_cst_21, ref_v110, ref_v48, mulf_up2, @hostSumRows_up2 8192 5632, @hostSumRows_up2 1 5632, cast_up1_row, sum_range_one]
theorem ref_v125 : val_main_v125 (F := Ideal) (up2 A.dout) (up2 A.inp) (up1 A.gain) (up1 A.scale) (up1 A.shift) (up1 A.gate) (up1 A.gain2) (up2 A.up) (up2 A.taps) (up2 A.down)
    = up1 (n := 5632) fun l => ∑ a ∈ range 8192, A.dConv a l * A.padded (a + 1) l := by
  simp (disch := first | decide | assumption) only [val_main_v125, val_main_v124, val_main_v123, val_main_v122, val_main_cst_24,
    val_main_cst_25, ref_v110, ref_v41, mulf_up2, @hostSumRows_up2 8192 5632, @hostSumRows_up2 1 5632, cast_up1_row, sum_range_one]
theorem ref_v136 : val_main_v136 (F := Ideal) (up2 A.dout) (up2 A.inp) (up1 A.gain) (up1 A.scale) (up1 A.shift) (up1 A.gate) (up1 A.gain2) (up2 A.up) (up2 A.taps) (up2 A.down)
    = up1 (n := 5632) fun l => ∑ a ∈ range 8192, A.dConv a l * A.padded a l := by
  simp (disch := first | decide | assumption) only [val_main_v136, val_main_v135, val_main_v134, val_main_v133, val_main_cst_28,
    val_main_cst_29, ref_v110, ref_v33, mulf_up2, @hostSumRows_up2 8192 5632, @hostSumRows_up2 1 5632, cast_up1_row, sum_range_one]
/-- The sums over rows. -/
theorem ref_v182 : val_main_v182 (F := Ideal) (up2 A.dout) (up2 A.inp) (up1 A.gain) (up1 A.scale) (up1 A.shift) (up1 A.gate) (up1 A.gain2) (up2 A.up) (up2 A.taps) (up2 A.down)
    = up2 (m := 8) (n := 1024) (A.dVecOf (range 8192)) := by
  simp (disch := first | decide | assumption) only [val_main_v182, val_main_v180, val_main_v175, val_main_v176, val_main_v177,
    val_main_v178, val_main_v179, val_main_v181, val_main_cst_41, ref_v91, ref_v85, ref_v159, ref_v153, ref_v147, @inDim1_up1 1 1024,
    concat_stack, stackFive_eq, stackFive_up2, spread_up2, word_zero, stackRows_up2]
  exact up2_congr fun i hi b _ => dVec_eq A i b hi
/-- The gradient of the taps. -/
theorem ref_v188 : val_main_v188 (F := Ideal) (up2 A.dout) (up2 A.inp) (up1 A.gain) (up1 A.scale) (up1 A.shift) (up1 A.gate) (up1 A.gain2) (up2 A.up) (up2 A.taps) (up2 A.down)
    = up2 (m := 8) (n := 5632) (A.dTapOf (range 8192)) := by
  simp (disch := first | decide | assumption) only [val_main_v188, val_main_v141, val_main_v130, val_main_v119, val_main_v118,
    val_main_cst_23, val_main_v129, val_main_v128, val_main_cst_27, val_main_v140, val_main_v139, val_main_cst_31, val_main_v187,
    val_main_cst_42, ref_v116, ref_v125, ref_v136, @inDim1_up1 1 5632, pad_up2, addf_up2, concat_stack, spread_up2, word_zero,
    stackRows_up2]
  exact up2_congr fun i hi l _ => dTap_eq A i l hi

end Cert.ReferenceIdeal.Bwd

end

end
-- ==== Proof.Bwd.Value.lean ====
/- The value claim: under the precondition the kernel's five results are the reference's. -/
module

public import proofs.«01_k».proof.Proof.Bwd.Finite
public import proofs.«01_k».proof.Proof.Bwd.Out
public import proofs.«01_k».proof.Proof.Bwd.RefOut
public import proofs.«01_k».proof.Proof.Gen.ReferenceIdeal
public import Idealize.ShloMosaic.Lib.Claim

@[expose] public section

set_option maxRecDepth 16384

noncomputable section

open Idealize.ShloMosaic Idealize.SL Idealize.SL.RA Idealize.SL.Sem Idealize.ShloMosaic.Rounds Cert.Lift

namespace Cert.ReferenceIdeal.Bwd

open Cert.ReferenceIdeal Cert.ReferenceIdeal.Gen Cert.ReferenceIdeal.Read

/-- The reference's arguments hold these real numbers. -/
structure Given (V : Valuation τ sig (Elt Ideal)) (A : Args) : Prop where
  a0 : V (Proc.devRef .tc main_arg0) = up2 (m := 8192) (n := 1024) A.dout
  a1 : V (Proc.devRef .tc main_arg1) = up2 (m := 8192) (n := 1024) A.inp
  a2 : V (Proc.devRef .tc main_arg2) = up1 (n := 1024) A.gain
  a3 : V (Proc.devRef .tc main_arg3) = up1 (n := 1024) A.scale
  a4 : V (Proc.devRef .tc main_arg4) = up1 (n := 1024) A.shift
  a5 : V (Proc.devRef .tc main_arg5) = up1 (n := 1024) A.gate
  a6 : V (Proc.devRef .tc main_arg6) = up1 (n := 1024) A.gain2
  a7 : V (Proc.devRef .tc main_arg7) = up2 (m := 1024) (n := 5632) A.up
  a8 : V (Proc.devRef .tc main_arg8) = up2 (m := 3) (n := 5632) A.taps
  a9 : V (Proc.devRef .tc main_arg9) = up2 (m := 2816) (n := 1024) A.down

/-- The reference's run: its five results are the specification's. -/
theorem run_ref (m : (ℓ : Loc nD τ sig) → Buf (Elt Ideal) ℓ) (ρ : Dev nD → PrngReg) (A : Dev nD → Args)
    (hA : ∀ c, Given (StableHlo.launchContents m c) (A c)) :
    θ_run defs (onTc (τ := τ) (main (F := Ideal))) ⟨m, fun _ => 0, ρ⟩ fun r => ∀ c : Dev nD,
      r.2.mem ((c.tc : Thread nD τ).loc main_v174) = up2 (m := 8192) (n := 1024) (A c).dInp
      ∧ r.2.mem ((c.tc : Thread nD τ).loc main_v185) = up3 (l := 4) (m := 8192) (n := 1408) (fun q a k => (A c).dPre a (q * 1408 + k))
      ∧ r.2.mem ((c.tc : Thread nD τ).loc main_v186) = up2 (m := 8192) (n := 1024) (A c).dMid
      ∧ r.2.mem ((c.tc : Thread nD τ).loc main_v182) = up2 (m := 8) (n := 1024) ((A c).dVecOf (Finset.range 8192))
      ∧ r.2.mem ((c.tc : Thread nD τ).loc main_v188) = up2 (m := 8) (n := 5632) ((A c).dTapOf (Finset.range 8192))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Cert.ReferenceIdeal.Value.run (F := Ideal) m ρ)
  obtain ⟨a0, a1, a2, a3, a4, a5, a6, a7, a8, a9⟩ := hA c
  obtain ⟨r0, r1, r2, r3, r4, rest⟩ := h c
  refine ⟨r0.trans ((val_main_v174_eq _).trans ?_), r1.trans ((val_main_v185_eq _).trans ?_), r2.trans ((val_main_v186_eq _).trans ?_),
    r3.trans ((val_main_v182_eq _).trans ?_), r4.trans ((val_main_v188_eq _).trans ?_), rest⟩
  all_goals rw [a0, a1, a2, a3, a4, a5, a6, a7, a8, a9]
  · exact ref_v174 (A c)
  · exact ref_v185 (A c)
  · exact ref_v186 (A c)
  · exact ref_v182 (A c)
  · exact ref_v188 (A c)

end Cert.ReferenceIdeal.Bwd

namespace Cert.Proof

open Cert.KernelIdeal Cert.KernelIdeal.Gen Cert.KernelIdeal.Bwd

/-- Where a run of the kernel ends, each result is its window's array, whatever the proof data. -/
theorem windows {F : FTy → Type} [FloatOps F] {m : (ℓ : Loc nD τ sig) → Buf (Elt F) ℓ}
    {D : (p : Fin 1) → (c : Dev nD) → Pipeline.Dat τ (Elt F) Unit ℕ (UR sig nD τ) ℕ (cfgs p) c} {r : PUnit × MemSt nD τ sig (Elt F)}
    (h : Pipeline.FramePost cfgs D 0 (V m) r) (c : Dev nD) :
    r.2.mem ((c.tc : Thread nD τ).loc main_v71_0) = (D 0 c).arrAt 9 (cfgs 0).N
      ∧ r.2.mem ((c.tc : Thread nD τ).loc main_v71_1) = (D 0 c).arrAt 10 (cfgs 0).N
      ∧ r.2.mem ((c.tc : Thread nD τ).loc main_v71_2) = (D 0 c).arrAt 11 (cfgs 0).N
      ∧ r.2.mem ((c.tc : Thread nD τ).loc main_v71_3) = (D 0 c).arrAt 12 (cfgs 0).N
      ∧ r.2.mem ((c.tc : Thread nD τ).loc main_v71_4) = (D 0 c).arrAt 13 (cfgs 0).N :=
  ⟨(h c).1 9, (h c).1 10, (h c).1 11, (h c).1 12, (h c).1 13⟩

/-- The kernel's run: its five results are the specification's. -/
theorem run_kernel (m : (ℓ : Loc nD τ sig) → Buf (Elt Ideal) ℓ) (ρ : Dev nD → PrngReg) (A : Dev nD → Args) (hA : ∀ c, Holds m c (A c)) :
    θ_run defs (onTc (τ := τ) (main (F := Ideal))) (s₀ m ρ) fun r => ∀ c : Dev nD,
      r.2.mem ((c.tc : Thread nD τ).loc main_v71_0) = up2 (m := 8192) (n := 1024) (A c).dInp
      ∧ r.2.mem ((c.tc : Thread nD τ).loc main_v71_1) = up3 (l := 4) (m := 8192) (n := 1408) (fun q a k => (A c).dPre a (q * 1408 + k))
      ∧ r.2.mem ((c.tc : Thread nD τ).loc main_v71_2) = up2 (m := 8192) (n := 1024) (A c).dMid
      ∧ r.2.mem ((c.tc : Thread nD τ).loc main_v71_3) = up2 (m := 8) (n := 1024) ((A c).dVecOf (Finset.range 8192))
      ∧ r.2.mem ((c.tc : Thread nD τ).loc main_v71_4) = up2 (m := 8) (n := 5632) ((A c).dTapOf (Finset.range 8192)) := by
  refine (θ_run defs _ _).mono (fun r h c => ?_) (run_main m ρ)
  obtain ⟨r0, r1, r2, r3, r4⟩ := windows h c
  exact ⟨r0.trans (out_9 (hA c)), r1.trans (out_10 (hA c)), r2.trans (out_11 (hA c)), r3.trans (out_12 (hA c)), r4.trans (out_13 (hA c))⟩

/-- The kernel's results are the reference's wherever no argument holds an infinity. -/
theorem value [hPre_finite : Cert.Pre_finite.Facts] : Cert.algebraic_KernelIdeal_ReferenceIdeal_pre_finite := by
  intro m g m' g' hpre hagree
  choose A hA using exists_holds m hpre
  refine ⟨fun c => up2 (m := 8192) (n := 1024) (A c).dInp, fun c => up3 (l := 4) (m := 8192) (n := 1408) fun q a k => (A c).dPre a (q * 1408 + k),
    fun c => up2 (m := 8192) (n := 1024) (A c).dMid, fun c => up2 (m := 8) (n := 1024) ((A c).dVecOf (Finset.range 8192)),
    fun c => up2 (m := 8) (n := 5632) ((A c).dTapOf (Finset.range 8192)), ?_, ?_⟩
  · refine θ_run_mono (θ_run_and (run_kernel m g A hA) (unchanged m g)) fun r h c => ?_
    obtain ⟨r0, r1, r2, r3, r4⟩ := h.1 c
    exact ⟨r0, r1, r2, r3, r4, h.2 c⟩
  · refine Cert.ReferenceIdeal.Bwd.run_ref m' g' A fun c => ?_
    obtain ⟨e0, e1, e2, e3, e4, e5, e6, e7, e8, e9⟩ := hagree c
    have k := hA c
    exact ⟨e0.trans k.a0, e1.trans k.a1, e2.trans k.a2, e3.trans k.a3, e4.trans k.a4, e5.trans k.a5, e6.trans k.a6, e7.trans k.a7,
      e8.trans k.a8, e9.trans k.a9⟩

end Cert.Proof

end

end
-- ==== Proof.Wgt.Base.lean ====
module

public import Idealize.ShloMosaic.Lib.Pipeline.ValueKit.Point
public import Idealize.ShloMosaic.Lib.ValueIdx
public import Idealize.ShloMosaic.PureOps.Ideal.Laws

@[expose] public section

noncomputable section

namespace Cert.Wgt

open Idealize.ShloMosaic Finset

/-- The element of an array at three numbers, zero outside the array. -/
def at3 {p q r : ℕ} (X : (⟨3, ![p, q, r]⟩ : Shape).Idx → EReal) (a b c : ℕ) : EReal :=
  if h : a < p ∧ b < q ∧ c < r then X (ix3 ⟨a, h.1⟩ ⟨b, h.2.1⟩ ⟨c, h.2.2⟩) else 0

/-- An element is the element at its three coordinates. -/
theorem eq_at3 {p q r : ℕ} (X : (⟨3, ![p, q, r]⟩ : Shape).Idx → EReal) (i : (⟨3, ![p, q, r]⟩ : Shape).Idx) {a b c : ℕ}
    (h0 : (i 0).val = a) (h1 : (i 1).val = b) (h2 : (i 2).val = c) : X i = at3 X a b c := by
  subst h0 h1 h2
  have h : (i 0).val < p ∧ (i 1).val < q ∧ (i 2).val < r := ⟨(i 0).isLt, (i 1).isLt, (i 2).isLt⟩
  unfold at3
  rw [dif_pos h]
  exact congrArg X (funext fun x => by fin_cases x <;> rfl)

/-- A sum over blocks of `m` numbers one after another. -/
theorem blocks_sum (m : ℕ) (f : ℕ → EReal) (n : ℕ) : ∑ s ∈ range n, ∑ k ∈ range m, f (s * m + k) = ∑ r ∈ range (n * m), f r := by
  induction n with
  | zero => rw [Nat.zero_mul, range_zero, sum_empty, sum_empty]
  | succ n ih => rw [sum_range_succ, ih, Nat.succ_mul, sum_range_add]

/-- What one block of rows adds to an element of the product of the first array, transposed, and the second. -/
def part {p p' k n : ℕ} (X : (⟨3, ![p, 8192, k]⟩ : Shape).Idx → EReal) (Y : (⟨3, ![p', 8192, n]⟩ : Shape).Idx → EReal)
    (j j' s a b : ℕ) : EReal := ∑ l ∈ range 2048, at3 X j (s * 2048 + l) a * at3 Y j' (s * 2048 + l) b

/-- An element of the product of the first array, transposed, and the second. -/
def whole {p p' k n : ℕ} (X : (⟨3, ![p, 8192, k]⟩ : Shape).Idx → EReal) (Y : (⟨3, ![p', 8192, n]⟩ : Shape).Idx → EReal)
    (j j' a b : ℕ) : EReal := ∑ l ∈ range 8192, at3 X j l a * at3 Y j' l b

/-- The four blocks make the product. -/
theorem sum_part {p p' k n : ℕ} (X : (⟨3, ![p, 8192, k]⟩ : Shape).Idx → EReal) (Y : (⟨3, ![p', 8192, n]⟩ : Shape).Idx → EReal)
    (j j' a b : ℕ) : ∑ s ∈ range 4, part X Y j j' s a b = whole X Y j j' a b :=
  blocks_sum 2048 (fun l => at3 X j l a * at3 Y j' l b) 4

end Cert.Wgt
-- ==== Proof.Wgt.Up.lean ====
module

public import proofs.«01_k».proof.Defs
public import proofs.«01_k».proof.Proof.Wgt.Base
public import proofs.«01_k».proof.Proof.Gen.KernelUpIdeal.Value
public import proofs.«01_k».proof.Proof.Gen.ReferenceUpIdeal.Read

@[expose] public section

noncomputable section

namespace Cert.KernelUpIdeal.Grad

open Cert.KernelUpIdeal Cert.KernelUpIdeal.Gen Cert.KernelUpIdeal.Value Cert.Wgt
open Idealize.ShloMosaic Idealize.ShloMosaic.TcCoe Idealize.SL.Sem Finset

variable (m : (ℓ : Loc nD τ sig) → Buf (Elt Ideal) ℓ) (c : Dev nD)

/-- The first array: the input of the product. -/
abbrev arrX : S1x8192x1024.Idx → EReal := m ((c : Thread nD τ).loc main_arg0)
/-- The second array: the gradient of the product. -/
abbrev arrY : S4x8192x1408.Idx → EReal := m ((c : Thread nD τ).loc main_arg1)

theorem idx : ∀ t : Fin cfg0.N, win0_0.index t = ![0, t.val % 4, 0] ∧ win0_1.index t = ![t.val / 4, t.val % 4, 0] := by
  decide +kernel

theorem blk0 (t : Fin cfg0.N) (y : S1x2048x1024.Idx) :
    iblk m c 0 t y = at3 (arrX m c) 0 (t.val % 4 * 2048 + (y 1).val) (y 2).val := by
  have hN : cfg0.N = 16 := N_0
  have e : iblk m c 0 t y = arrX m c (ix3 0 ⟨t.val % 4 * 2048 + (y 1).val, by have := (y 1).isLt; have : (y 1).val < 2048 := this; omega⟩ (y 2)) := by
    blk_ext [iblk, V, idx t]
  exact e.trans (eq_at3 _ _ rfl rfl rfl)

theorem blk1 (t : Fin cfg0.N) (y : S1x2048x1408.Idx) :
    iblk m c 1 t y = at3 (arrY m c) (t.val / 4) (t.val % 4 * 2048 + (y 1).val) (y 2).val := by
  have hN : cfg0.N = 16 := N_0
  have ht : t.val < 16 := hN ▸ t.isLt
  have e : iblk m c 1 t y = arrY m c (ix3 ⟨t.val / 4, by omega⟩ ⟨t.val % 4 * 2048 + (y 1).val, by have := (y 1).isLt; have : (y 1).val < 2048 := this; omega⟩ (y 2)) := by
    blk_ext [iblk, V, idx t]
  exact e.trans (eq_at3 _ _ rfl rfl rfl)

theorem pay1 (j : S1x1024x1408.Idx) : k0_pay1 (F := Ideal) j = 0 := by
  pointwise [k0_pay1]

theorem pay2 (acc : Vec Ideal S1x1024x1408 .f32) (x : Vec Ideal S1x2048x1024 .bf16) (y : Vec Ideal S1x2048x1408 .bf16) (j : S1x1024x1408.Idx) :
    k0_pay2 acc x y j = acc j + ∑ k : Fin 2048, x (ix3 0 k (j 1)) * y (ix3 0 k (j 2)) := by
  pointwise [k0_pay2]

/-- What one step adds. -/
theorem step_sum (n : ℕ) (h : n < cfg0.N) (acc : Vec Ideal S1x1024x1408 .f32) (j : S1x1024x1408.Idx) :
    k0_pay2 acc (iblk m c 0 ⟨n, h⟩) (iblk m c 1 ⟨n, h⟩) j = acc j + part (arrX m c) (arrY m c) 0 (n / 4) (n % 4) (j 1).val (j 2).val := by
  rw [pay2]
  refine congrArg (acc j + ·) ?_
  unfold part
  rw [← Fin.sum_univ_eq_sum_range (fun l => at3 (arrX m c) 0 (n % 4 * 2048 + l) (j 1).val * at3 (arrY m c) (n / 4) (n % 4 * 2048 + l) (j 2).val) 2048]
  refine Finset.sum_congr rfl fun k _ => ?_
  rw [blk0, blk1]
  rfl

/-- The kernel's result. -/
theorem result_apply (i : S4x1024x1408.Idx) :
    G2 m c i = whole (arrX m c) (arrY m c) 0 (i 0).val (i 1).val (i 2).val := by
  have hN : cfg0.N = 16 := N_0
  have h0 : (i 0).val < 4 := (i 0).isLt
  have h1 : (i 1).val < 1024 := (i 1).isLt
  have h2 : (i 2).val < 1408 := (i 2).isLt
  have hr : run2Of i = (i 0).val := by dsimp only [run2Of]; omega
  have e0 : ((loc2Of i) 1).val = (i 1).val := by show (i 1).val % 1024 = _; omega
  have e1 : ((loc2Of i) 2).val = (i 2).val := by show (i 2).val % 1408 = _; omega
  unfold G2
  rw [dif_pos (by omega)]
  refine (Pipeline.accAt_add_apply (β := EReal) (reset2 m c) (step2 m c) (fun _ => 0)
    (fun n j => part (arrX m c) (arrY m c) 0 (n / 4) (n % 4) (j 1).val (j 2).val) (4 * run2Of i) 3
    (fun h j => by unfold reset2; rw [step_sum, pay1]) (fun n h acc j _ _ => by unfold step2; rw [step_sum]) 3 (le_refl 3) _ (loc2Of i)).trans ?_
  rw [zero_add, ← sum_part]
  refine Finset.sum_congr rfl fun s hs => ?_
  have hs' : s < 4 := mem_range.mp hs
  show part _ _ 0 ((4 * run2Of i + s) / 4) ((4 * run2Of i + s) % 4) ((loc2Of i) 1).val ((loc2Of i) 2).val = _
  rw [e0, e1, hr, show (4 * (i 0).val + s) / 4 = (i 0).val by omega, show (4 * (i 0).val + s) % 4 = s by omega]

end Cert.KernelUpIdeal.Grad

namespace Cert.ReferenceUpIdeal.Grad

open Cert.ReferenceUpIdeal Cert.ReferenceUpIdeal.Read Cert.Wgt
open Idealize.ShloMosaic Finset

/-- The reference's result. -/
theorem result_apply (x : (⟨S1x8192x1024, .bf16⟩ : BufTy).Contents (Elt Ideal)) (y : (⟨S4x8192x1408, .bf16⟩ : BufTy).Contents (Elt Ideal)) (i : S4x1024x1408.Idx) :
    val_main_v10 (F := Ideal) x y i = whole (p := 1) (p' := 4) (k := 1024) (n := 1408) x y 0 (i 0).val (i 1).val (i 2).val := by
  have h0 : (i 0).val < 4 := (i 0).isLt
  have h1 : (i 1).val < 1024 := (i 1).isLt
  have h2 : (i 2).val < 1408 := (i 2).isLt
  rw [val_main_v10_apply, val_main_v9_apply, val_main_v8_apply, val_main_v7_apply]
  unfold whole
  rw [← Fin.sum_univ_eq_sum_range (fun l => at3 (p := 1) (q := 8192) (r := 1024) x 0 l (i 1).val * at3 (p := 4) (q := 8192) (r := 1408) y (i 0).val l (i 2).val) 8192]
  refine Finset.sum_congr rfl fun k _ => ?_
  have hk : k.val < 8192 := k.isLt
  rw [val_main_v2_apply, val_main_v1_apply, val_main_v0_apply, val_main_v5_apply, val_main_v4_apply, mul_comm]
  refine congrArg₂ (fun a b : EReal => a * b) (eq_at3 (p := 1) (q := 8192) (r := 1024) x _ ?_ ?_ ?_) (eq_at3 (p := 4) (q := 8192) (r := 1408) y _ ?_ ?_ ?_)
  all_goals first | rfl | (dsimp only; omega)

end Cert.ReferenceUpIdeal.Grad

namespace Cert.Wgt

open Idealize.ShloMosaic Idealize.SL.Sem

/-- The kernel's and the reference's gradients of the first weight are the same. -/
theorem value_up : Cert.algebraic_KernelUpIdeal_ReferenceUpIdeal := by
  intro m ρ m' ρ' _ hagree
  refine ⟨_, Cert.KernelUpIdeal.Value.run (F := Ideal) m ρ, ?_⟩
  refine (θ_run Cert.ReferenceUpIdeal.defs _ _).mono (fun _ h c => ⟨?_, (h c).2⟩) (Cert.ReferenceUpIdeal.Value.run (F := Ideal) m' ρ')
  rw [(h c).1]
  simp only [hagree c]
  rw [Cert.ReferenceUpIdeal.Read.val_main_v10_eq]
  funext i
  exact (Cert.ReferenceUpIdeal.Grad.result_apply _ _ i).trans (Cert.KernelUpIdeal.Grad.result_apply m c i).symm

end Cert.Wgt
-- ==== Proof.Wgt.Down.lean ====
module

public import proofs.«01_k».proof.Defs
public import proofs.«01_k».proof.Proof.Wgt.Base
public import proofs.«01_k».proof.Proof.Gen.KernelDownIdeal.Value
public import proofs.«01_k».proof.Proof.Gen.ReferenceDownIdeal.Read

@[expose] public section

noncomputable section

namespace Cert.KernelDownIdeal.Grad

open Cert.KernelDownIdeal Cert.KernelDownIdeal.Gen Cert.KernelDownIdeal.Value Cert.Wgt
open Idealize.ShloMosaic Idealize.ShloMosaic.TcCoe Idealize.SL.Sem Finset

variable (m : (ℓ : Loc nD τ sig) → Buf (Elt Ideal) ℓ) (c : Dev nD)

/-- The first array: the input of the product, in two groups of columns. -/
abbrev arrX : S2x8192x1408.Idx → EReal := m ((c : Thread nD τ).loc main_arg0)
/-- The second array: the gradient of the product. -/
abbrev arrY : S1x8192x1024.Idx → EReal := m ((c : Thread nD τ).loc main_arg1)

theorem idx : ∀ t : Fin cfg0.N, win0_0.index t = ![t.val / 4, t.val % 4, 0] ∧ win0_1.index t = ![0, t.val % 4, 0] := by
  decide +kernel

theorem blk0 (t : Fin cfg0.N) (y : S1x2048x1408.Idx) :
    iblk m c 0 t y = at3 (arrX m c) (t.val / 4) (t.val % 4 * 2048 + (y 1).val) (y 2).val := by
  have hN : cfg0.N = 8 := N_0
  have ht : t.val < 8 := hN ▸ t.isLt
  have e : iblk m c 0 t y = arrX m c (ix3 ⟨t.val / 4, by omega⟩ ⟨t.val % 4 * 2048 + (y 1).val, by have := (y 1).isLt; have : (y 1).val < 2048 := this; omega⟩ (y 2)) := by
    blk_ext [iblk, V, idx t]
  exact e.trans (eq_at3 _ _ rfl rfl rfl)

theorem blk1 (t : Fin cfg0.N) (y : S1x2048x1024.Idx) :
    iblk m c 1 t y = at3 (arrY m c) 0 (t.val % 4 * 2048 + (y 1).val) (y 2).val := by
  have hN : cfg0.N = 8 := N_0
  have ht : t.val < 8 := hN ▸ t.isLt
  have e : iblk m c 1 t y = arrY m c (ix3 0 ⟨t.val % 4 * 2048 + (y 1).val, by have := (y 1).isLt; have : (y 1).val < 2048 := this; omega⟩ (y 2)) := by
    blk_ext [iblk, V, idx t]
  exact e.trans (eq_at3 _ _ rfl rfl rfl)

theorem pay1 (j : S1x1408x1024.Idx) : k0_pay1 (F := Ideal) j = 0 := by
  pointwise [k0_pay1]

theorem pay2 (acc : Vec Ideal S1x1408x1024 .f32) (x : Vec Ideal S1x2048x1408 .bf16) (y : Vec Ideal S1x2048x1024 .bf16) (j : S1x1408x1024.Idx) :
    k0_pay2 acc x y j = acc j + ∑ k : Fin 2048, x (ix3 0 k (j 1)) * y (ix3 0 k (j 2)) := by
  pointwise [k0_pay2]

/-- What one step adds. -/
theorem step_sum (n : ℕ) (h : n < cfg0.N) (acc : Vec Ideal S1x1408x1024 .f32) (j : S1x1408x1024.Idx) :
    k0_pay2 acc (iblk m c 0 ⟨n, h⟩) (iblk m c 1 ⟨n, h⟩) j = acc j + part (arrX m c) (arrY m c) (n / 4) 0 (n % 4) (j 1).val (j 2).val := by
  rw [pay2]
  refine congrArg (acc j + ·) ?_
  unfold part
  rw [← Fin.sum_univ_eq_sum_range (fun l => at3 (arrX m c) (n / 4) (n % 4 * 2048 + l) (j 1).val * at3 (arrY m c) 0 (n % 4 * 2048 + l) (j 2).val) 2048]
  refine Finset.sum_congr rfl fun k _ => ?_
  rw [blk0, blk1]
  rfl

/-- The kernel's result. -/
theorem result_apply (i : S2x1408x1024.Idx) :
    G2 m c i = whole (arrX m c) (arrY m c) (i 0).val 0 (i 1).val (i 2).val := by
  have hN : cfg0.N = 8 := N_0
  have h0 : (i 0).val < 2 := (i 0).isLt
  have h1 : (i 1).val < 1408 := (i 1).isLt
  have h2 : (i 2).val < 1024 := (i 2).isLt
  have hr : run2Of i = (i 0).val := by dsimp only [run2Of]; omega
  have e0 : ((loc2Of i) 1).val = (i 1).val := by show (i 1).val % 1408 = _; omega
  have e1 : ((loc2Of i) 2).val = (i 2).val := by show (i 2).val % 1024 = _; omega
  unfold G2
  rw [dif_pos (by omega)]
  refine (Pipeline.accAt_add_apply (β := EReal) (reset2 m c) (step2 m c) (fun _ => 0)
    (fun n j => part (arrX m c) (arrY m c) (n / 4) 0 (n % 4) (j 1).val (j 2).val) (4 * run2Of i) 3
    (fun h j => by unfold reset2; rw [step_sum, pay1]) (fun n h acc j _ _ => by unfold step2; rw [step_sum]) 3 (le_refl 3) _ (loc2Of i)).trans ?_
  rw [zero_add, ← sum_part]
  refine Finset.sum_congr rfl fun s hs => ?_
  have hs' : s < 4 := mem_range.mp hs
  show part _ _ ((4 * run2Of i + s) / 4) 0 ((4 * run2Of i + s) % 4) ((loc2Of i) 1).val ((loc2Of i) 2).val = _
  rw [e0, e1, hr, show (4 * (i 0).val + s) / 4 = (i 0).val by omega, show (4 * (i 0).val + s) % 4 = s by omega]

end Cert.KernelDownIdeal.Grad

namespace Cert.ReferenceDownIdeal.Grad

open Cert.ReferenceDownIdeal Cert.ReferenceDownIdeal.Read Cert.Wgt
open Idealize.ShloMosaic Finset

/-- The reference's result. -/
theorem result_apply (x : (⟨S2x8192x1408, .bf16⟩ : BufTy).Contents (Elt Ideal)) (y : (⟨S1x8192x1024, .bf16⟩ : BufTy).Contents (Elt Ideal)) (i : S2x1408x1024.Idx) :
    val_main_v9 (F := Ideal) x y i = whole (p := 2) (p' := 1) (k := 1408) (n := 1024) x y (i 0).val 0 (i 1).val (i 2).val := by
  have h0 : (i 0).val < 2 := (i 0).isLt
  have h1 : (i 1).val < 1408 := (i 1).isLt
  have h2 : (i 2).val < 1024 := (i 2).isLt
  rw [val_main_v9_apply, val_main_v8_apply, val_main_v7_apply]
  unfold whole
  rw [← Fin.sum_univ_eq_sum_range (fun l => at3 (p := 2) (q := 8192) (r := 1408) x (i 0).val l (i 1).val * at3 (p := 1) (q := 8192) (r := 1024) y 0 l (i 2).val) 8192]
  refine Finset.sum_congr rfl fun k _ => ?_
  have hk : k.val < 8192 := k.isLt
  rw [val_main_v6_apply, val_main_v5_apply, val_main_v3_apply, val_main_v2_apply, val_main_v1_apply, mul_comm]
  refine congrArg₂ (fun a b : EReal => a * b) (eq_at3 (p := 2) (q := 8192) (r := 1408) x _ ?_ ?_ ?_) (eq_at3 (p := 1) (q := 8192) (r := 1024) y _ ?_ ?_ ?_)
  all_goals first | rfl | (dsimp only; omega)

end Cert.ReferenceDownIdeal.Grad

namespace Cert.Wgt

open Idealize.ShloMosaic Idealize.SL.Sem

/-- The kernel's and the reference's gradients of the second weight are the same. -/
theorem value_down : Cert.algebraic_KernelDownIdeal_ReferenceDownIdeal := by
  intro m ρ m' ρ' _ hagree
  refine ⟨_, Cert.KernelDownIdeal.Value.run (F := Ideal) m ρ, ?_⟩
  refine (θ_run Cert.ReferenceDownIdeal.defs _ _).mono (fun _ h c => ⟨?_, (h c).2⟩) (Cert.ReferenceDownIdeal.Value.run (F := Ideal) m' ρ')
  rw [(h c).1]
  simp only [hagree c]
  rw [Cert.ReferenceDownIdeal.Read.val_main_v9_eq]
  funext i
  exact (Cert.ReferenceDownIdeal.Grad.result_apply _ _ i).trans (Cert.KernelDownIdeal.Grad.result_apply m c i).symm

end Cert.Wgt
-- ==== Proof.Wgt.Mix.lean ====
module

public import proofs.«01_k».proof.Defs
public import proofs.«01_k».proof.Proof.Wgt.Base
public import proofs.«01_k».proof.Proof.Gen.KernelMixIdeal.Value
public import proofs.«01_k».proof.Proof.Gen.ReferenceMixIdeal.Read

@[expose] public section

noncomputable section

namespace Cert.KernelMixIdeal.Grad

open Cert.KernelMixIdeal Cert.KernelMixIdeal.Gen Cert.KernelMixIdeal.Value Cert.Wgt
open Idealize.ShloMosaic Idealize.ShloMosaic.TcCoe Idealize.SL.Sem Finset

variable (m : (ℓ : Loc nD τ sig) → Buf (Elt Ideal) ℓ) (c : Dev nD)

/-- The first array: the input of the product. -/
abbrev arrX : S1x8192x1024.Idx → EReal := m ((c : Thread nD τ).loc main_arg0)
/-- The second array: the gradient of the product. -/
abbrev arrY : S4x8192x512.Idx → EReal := m ((c : Thread nD τ).loc main_arg1)

theorem idx : ∀ t : Fin cfg0.N, win0_0.index t = ![0, t.val % 4, 0] ∧ win0_1.index t = ![t.val / 4, t.val % 4, 0] := by
  decide +kernel

theorem blk0 (t : Fin cfg0.N) (y : S1x2048x1024.Idx) :
    iblk m c 0 t y = at3 (arrX m c) 0 (t.val % 4 * 2048 + (y 1).val) (y 2).val := by
  have hN : cfg0.N = 16 := N_0
  have e : iblk m c 0 t y = arrX m c (ix3 0 ⟨t.val % 4 * 2048 + (y 1).val, by have := (y 1).isLt; have : (y 1).val < 2048 := this; omega⟩ (y 2)) := by
    blk_ext [iblk, V, idx t]
  exact e.trans (eq_at3 _ _ rfl rfl rfl)

theorem blk1 (t : Fin cfg0.N) (y : S1x2048x512.Idx) :
    iblk m c 1 t y = at3 (arrY m c) (t.val / 4) (t.val % 4 * 2048 + (y 1).val) (y 2).val := by
  have hN : cfg0.N = 16 := N_0
  have ht : t.val < 16 := hN ▸ t.isLt
  have e : iblk m c 1 t y = arrY m c (ix3 ⟨t.val / 4, by omega⟩ ⟨t.val % 4 * 2048 + (y 1).val, by have := (y 1).isLt; have : (y 1).val < 2048 := this; omega⟩ (y 2)) := by
    blk_ext [iblk, V, idx t]
  exact e.trans (eq_at3 _ _ rfl rfl rfl)

theorem pay1 (j : S1x1024x512.Idx) : k0_pay1 (F := Ideal) j = 0 := by
  pointwise [k0_pay1]

theorem pay2 (acc : Vec Ideal S1x1024x512 .f32) (x : Vec Ideal S1x2048x1024 .bf16) (y : Vec Ideal S1x2048x512 .bf16) (j : S1x1024x512.Idx) :
    k0_pay2 acc x y j = acc j + ∑ k : Fin 2048, x (ix3 0 k (j 1)) * y (ix3 0 k (j 2)) := by
  pointwise [k0_pay2]

/-- What one step adds. -/
theorem step_sum (n : ℕ) (h : n < cfg0.N) (acc : Vec Ideal S1x1024x512 .f32) (j : S1x1024x512.Idx) :
    k0_pay2 acc (iblk m c 0 ⟨n, h⟩) (iblk m c 1 ⟨n, h⟩) j = acc j + part (arrX m c) (arrY m c) 0 (n / 4) (n % 4) (j 1).val (j 2).val := by
  rw [pay2]
  refine congrArg (acc j + ·) ?_
  unfold part
  rw [← Fin.sum_univ_eq_sum_range (fun l => at3 (arrX m c) 0 (n % 4 * 2048 + l) (j 1).val * at3 (arrY m c) (n / 4) (n % 4 * 2048 + l) (j 2).val) 2048]
  refine Finset.sum_congr rfl fun k _ => ?_
  rw [blk0, blk1]
  rfl

/-- The kernel's result. -/
theorem result_apply (i : S4x1024x512.Idx) :
    G2 m c i = whole (arrX m c) (arrY m c) 0 (i 0).val (i 1).val (i 2).val := by
  have hN : cfg0.N = 16 := N_0
  have h0 : (i 0).val < 4 := (i 0).isLt
  have h1 : (i 1).val < 1024 := (i 1).isLt
  have h2 : (i 2).val < 512 := (i 2).isLt
  have hr : run2Of i = (i 0).val := by dsimp only [run2Of]; omega
  have e0 : ((loc2Of i) 1).val = (i 1).val := by show (i 1).val % 1024 = _; omega
  have e1 : ((loc2Of i) 2).val = (i 2).val := by show (i 2).val % 512 = _; omega
  unfold G2
  rw [dif_pos (by omega)]
  refine (Pipeline.accAt_add_apply (β := EReal) (reset2 m c) (step2 m c) (fun _ => 0)
    (fun n j => part (arrX m c) (arrY m c) 0 (n / 4) (n % 4) (j 1).val (j 2).val) (4 * run2Of i) 3
    (fun h j => by unfold reset2; rw [step_sum, pay1]) (fun n h acc j _ _ => by unfold step2; rw [step_sum]) 3 (le_refl 3) _ (loc2Of i)).trans ?_
  rw [zero_add, ← sum_part]
  refine Finset.sum_congr rfl fun s hs => ?_
  have hs' : s < 4 := mem_range.mp hs
  show part _ _ 0 ((4 * run2Of i + s) / 4) ((4 * run2Of i + s) % 4) ((loc2Of i) 1).val ((loc2Of i) 2).val = _
  rw [e0, e1, hr, show (4 * (i 0).val + s) / 4 = (i 0).val by omega, show (4 * (i 0).val + s) % 4 = s by omega]

end Cert.KernelMixIdeal.Grad

namespace Cert.ReferenceMixIdeal.Grad

open Cert.ReferenceMixIdeal Cert.ReferenceMixIdeal.Read Cert.Wgt
open Idealize.ShloMosaic Finset

/-- The reference's result. -/
theorem result_apply (x : (⟨S1x8192x1024, .bf16⟩ : BufTy).Contents (Elt Ideal)) (y : (⟨S4x8192x512, .bf16⟩ : BufTy).Contents (Elt Ideal)) (i : S4x1024x512.Idx) :
    val_main_v10 (F := Ideal) x y i = whole (p := 1) (p' := 4) (k := 1024) (n := 512) x y 0 (i 0).val (i 1).val (i 2).val := by
  have h0 : (i 0).val < 4 := (i 0).isLt
  have h1 : (i 1).val < 1024 := (i 1).isLt
  have h2 : (i 2).val < 512 := (i 2).isLt
  rw [val_main_v10_apply, val_main_v9_apply, val_main_v8_apply, val_main_v7_apply]
  unfold whole
  rw [← Fin.sum_univ_eq_sum_range (fun l => at3 (p := 1) (q := 8192) (r := 1024) x 0 l (i 1).val * at3 (p := 4) (q := 8192) (r := 512) y (i 0).val l (i 2).val) 8192]
  refine Finset.sum_congr rfl fun k _ => ?_
  have hk : k.val < 8192 := k.isLt
  rw [val_main_v2_apply, val_main_v1_apply, val_main_v0_apply, val_main_v5_apply, val_main_v4_apply, mul_comm]
  refine congrArg₂ (fun a b : EReal => a * b) (eq_at3 (p := 1) (q := 8192) (r := 1024) x _ ?_ ?_ ?_) (eq_at3 (p := 4) (q := 8192) (r := 512) y _ ?_ ?_ ?_)
  all_goals first | rfl | (dsimp only; omega)

end Cert.ReferenceMixIdeal.Grad

namespace Cert.Wgt

open Idealize.ShloMosaic Idealize.SL.Sem

/-- The kernel's and the reference's gradients of the convolution mixer's first weight are the same. -/
theorem value_mix : Cert.algebraic_KernelMixIdeal_ReferenceMixIdeal := by
  intro m ρ m' ρ' _ hagree
  refine ⟨_, Cert.KernelMixIdeal.Value.run (F := Ideal) m ρ, ?_⟩
  refine (θ_run Cert.ReferenceMixIdeal.defs _ _).mono (fun _ h c => ⟨?_, (h c).2⟩) (Cert.ReferenceMixIdeal.Value.run (F := Ideal) m' ρ')
  rw [(h c).1]
  simp only [hagree c]
  rw [Cert.ReferenceMixIdeal.Read.val_main_v10_eq]
  funext i
  exact (Cert.ReferenceMixIdeal.Grad.result_apply _ _ i).trans (Cert.KernelMixIdeal.Grad.result_apply m c i).symm

end Cert.Wgt
-- ==== Proof.Wgt.Last.lean ====
module

public import proofs.«01_k».proof.Defs
public import proofs.«01_k».proof.Proof.Wgt.Base
public import proofs.«01_k».proof.Proof.Gen.KernelLastIdeal.Value
public import proofs.«01_k».proof.Proof.Gen.ReferenceLastIdeal.Read

@[expose] public section

noncomputable section

namespace Cert.KernelLastIdeal.Grad

open Cert.KernelLastIdeal Cert.KernelLastIdeal.Gen Cert.KernelLastIdeal.Value Cert.Wgt
open Idealize.ShloMosaic Idealize.ShloMosaic.TcCoe Idealize.SL.Sem Finset

variable (m : (ℓ : Loc nD τ sig) → Buf (Elt Ideal) ℓ) (c : Dev nD)

/-- The first array: the input of the product. -/
abbrev arrX : S1x8192x1024.Idx → EReal := m ((c : Thread nD τ).loc main_arg0)
/-- The second array: the gradient of the product. -/
abbrev arrY : S1x8192x1024.Idx → EReal := m ((c : Thread nD τ).loc main_arg1)

theorem idx : ∀ t : Fin cfg0.N, win0_0.index t = ![0, t.val % 4, 0] ∧ win0_1.index t = ![0, t.val % 4, 0] := by
  decide +kernel

theorem blk0 (t : Fin cfg0.N) (y : S1x2048x1024.Idx) :
    iblk m c 0 t y = at3 (arrX m c) 0 (t.val % 4 * 2048 + (y 1).val) (y 2).val := by
  have hN : cfg0.N = 4 := N_0
  have e : iblk m c 0 t y = arrX m c (ix3 0 ⟨t.val % 4 * 2048 + (y 1).val, by have := (y 1).isLt; have : (y 1).val < 2048 := this; omega⟩ (y 2)) := by
    blk_ext [iblk, V, idx t]
  exact e.trans (eq_at3 _ _ rfl rfl rfl)

theorem blk1 (t : Fin cfg0.N) (y : S1x2048x1024.Idx) :
    iblk m c 1 t y = at3 (arrY m c) 0 (t.val % 4 * 2048 + (y 1).val) (y 2).val := by
  have hN : cfg0.N = 4 := N_0
  have ht : t.val < 4 := hN ▸ t.isLt
  have e : iblk m c 1 t y = arrY m c (ix3 0 ⟨t.val % 4 * 2048 + (y 1).val, by have := (y 1).isLt; have : (y 1).val < 2048 := this; omega⟩ (y 2)) := by
    blk_ext [iblk, V, idx t]
  exact e.trans (eq_at3 _ _ rfl rfl rfl)

theorem pay1 (j : S1x1024x1024.Idx) : k0_pay1 (F := Ideal) j = 0 := by
  pointwise [k0_pay1]

theorem pay2 (acc : Vec Ideal S1x1024x1024 .f32) (x : Vec Ideal S1x2048x1024 .bf16) (y : Vec Ideal S1x2048x1024 .bf16) (j : S1x1024x1024.Idx) :
    k0_pay2 acc x y j = acc j + ∑ k : Fin 2048, x (ix3 0 k (j 1)) * y (ix3 0 k (j 2)) := by
  pointwise [k0_pay2]

/-- What one step adds. -/
theorem step_sum (n : ℕ) (h : n < cfg0.N) (acc : Vec Ideal S1x1024x1024 .f32) (j : S1x1024x1024.Idx) :
    k0_pay2 acc (iblk m c 0 ⟨n, h⟩) (iblk m c 1 ⟨n, h⟩) j = acc j + part (arrX m c) (arrY m c) 0 0 (n % 4) (j 1).val (j 2).val := by
  rw [pay2]
  refine congrArg (acc j + ·) ?_
  unfold part
  rw [← Fin.sum_univ_eq_sum_range (fun l => at3 (arrX m c) 0 (n % 4 * 2048 + l) (j 1).val * at3 (arrY m c) 0 (n % 4 * 2048 + l) (j 2).val) 2048]
  refine Finset.sum_congr rfl fun k _ => ?_
  rw [blk0, blk1]
  rfl

/-- The kernel's result. -/
theorem result_apply (i : S1x1024x1024.Idx) :
    G2 m c i = whole (arrX m c) (arrY m c) 0 0 (i 1).val (i 2).val := by
  have hN : cfg0.N = 4 := N_0
  have h0 : (i 0).val < 1 := (i 0).isLt
  have h1 : (i 1).val < 1024 := (i 1).isLt
  have h2 : (i 2).val < 1024 := (i 2).isLt
  have hr : run2Of i = (i 0).val := by dsimp only [run2Of]; omega
  have e0 : ((loc2Of i) 1).val = (i 1).val := by show (i 1).val % 1024 = _; omega
  have e1 : ((loc2Of i) 2).val = (i 2).val := by show (i 2).val % 1024 = _; omega
  unfold G2
  rw [dif_pos (by omega)]
  refine (Pipeline.accAt_add_apply (β := EReal) (reset2 m c) (step2 m c) (fun _ => 0)
    (fun n j => part (arrX m c) (arrY m c) 0 0 (n % 4) (j 1).val (j 2).val) (4 * run2Of i) 3
    (fun h j => by unfold reset2; rw [step_sum, pay1]) (fun n h acc j _ _ => by unfold step2; rw [step_sum]) 3 (le_refl 3) _ (loc2Of i)).trans ?_
  rw [zero_add, ← sum_part]
  refine Finset.sum_congr rfl fun s hs => ?_
  have hs' : s < 4 := mem_range.mp hs
  show part _ _ 0 0 ((4 * run2Of i + s) % 4) ((loc2Of i) 1).val ((loc2Of i) 2).val = _
  rw [e0, e1, hr, show (4 * (i 0).val + s) % 4 = s by omega]

end Cert.KernelLastIdeal.Grad

namespace Cert.ReferenceLastIdeal.Grad

open Cert.ReferenceLastIdeal Cert.ReferenceLastIdeal.Read Cert.Wgt
open Idealize.ShloMosaic Finset

/-- The reference's result. -/
theorem result_apply (x : (⟨S1x8192x1024, .bf16⟩ : BufTy).Contents (Elt Ideal)) (y : (⟨S1x8192x1024, .bf16⟩ : BufTy).Contents (Elt Ideal)) (i : S1x1024x1024.Idx) :
    val_main_v8 (F := Ideal) x y i = whole (p := 1) (p' := 1) (k := 1024) (n := 1024) x y 0 0 (i 1).val (i 2).val := by
  have h0 : (i 0).val < 1 := (i 0).isLt
  have h1 : (i 1).val < 1024 := (i 1).isLt
  have h2 : (i 2).val < 1024 := (i 2).isLt
  rw [val_main_v8_apply, val_main_v7_apply, val_main_v6_apply]
  unfold whole
  rw [← Fin.sum_univ_eq_sum_range (fun l => at3 (p := 1) (q := 8192) (r := 1024) x 0 l (i 1).val * at3 (p := 1) (q := 8192) (r := 1024) y 0 l (i 2).val) 8192]
  refine Finset.sum_congr rfl fun k _ => ?_
  have hk : k.val < 8192 := k.isLt
  rw [val_main_v5_apply, val_main_v4_apply, val_main_v2_apply, val_main_v1_apply, mul_comm]
  refine congrArg₂ (fun a b : EReal => a * b) (eq_at3 (p := 1) (q := 8192) (r := 1024) x _ ?_ ?_ ?_) (eq_at3 (p := 1) (q := 8192) (r := 1024) y _ ?_ ?_ ?_)
  all_goals first | rfl | (dsimp only; omega)

end Cert.ReferenceLastIdeal.Grad

namespace Cert.Wgt

open Idealize.ShloMosaic Idealize.SL.Sem

/-- The kernel's and the reference's gradients of the convolution mixer's second weight are the same. -/
theorem value_last : Cert.algebraic_KernelLastIdeal_ReferenceLastIdeal := by
  intro m ρ m' ρ' _ hagree
  refine ⟨_, Cert.KernelLastIdeal.Value.run (F := Ideal) m ρ, ?_⟩
  refine (θ_run Cert.ReferenceLastIdeal.defs _ _).mono (fun _ h c => ⟨?_, (h c).2⟩) (Cert.ReferenceLastIdeal.Value.run (F := Ideal) m' ρ')
  rw [(h c).1]
  simp only [hagree c]
  rw [Cert.ReferenceLastIdeal.Read.val_main_v8_eq]
  funext i
  exact (Cert.ReferenceLastIdeal.Grad.result_apply _ _ i).trans (Cert.KernelLastIdeal.Grad.result_apply m c i).symm

end Cert.Wgt
-- ==== Proof.lean ====
module

public import proofs.«01_k».proof.Defs
public import proofs.«01_k».proof.Proof.Gen.KernelUp.Frame
public import proofs.«01_k».proof.Proof.Gen.KernelUpIdeal.Value
public import proofs.«01_k».proof.Proof.Gen.ReferenceUpIdeal.Read
public import proofs.«01_k».proof.Proof.Gen.KernelDown.Frame
public import proofs.«01_k».proof.Proof.Gen.KernelDownIdeal.Value
public import proofs.«01_k».proof.Proof.Gen.ReferenceDownIdeal.Read
public import proofs.«01_k».proof.Proof.Gen.KernelMix.Frame
public import proofs.«01_k».proof.Proof.Gen.KernelMixIdeal.Value
public import proofs.«01_k».proof.Proof.Gen.ReferenceMixIdeal.Read
public import proofs.«01_k».proof.Proof.Gen.KernelLast.Frame
public import proofs.«01_k».proof.Proof.Gen.KernelLastIdeal.Value
public import proofs.«01_k».proof.Proof.Gen.ReferenceLastIdeal.Read
public import proofs.«01_k».proof.Proof.Gen.ReferenceIdeal.Run
public import proofs.«01_k».proof.Proof.Gen.ReferenceIdeal.Read
public import proofs.«01_k».proof.Proof.Frames
public import proofs.«01_k».proof.Proof.Bwd.Value
public import proofs.«01_k».proof.Proof.Wgt.Up
public import proofs.«01_k».proof.Proof.Wgt.Down
public import proofs.«01_k».proof.Proof.Wgt.Mix
public import proofs.«01_k».proof.Proof.Wgt.Last
public import Idealize.ShloMosaic.Adequacy
public import Idealize.ShloMosaic.Init
public import Idealize.ShloMosaic.Lib.Quiescent

@[expose] public section

noncomputable section

namespace Cert.Proof

open Idealize.ShloMosaic Idealize.SL.Sem

/-- The precondition's one number is spread over each argument's shape. -/
theorem facts_finite : Cert.Pre_finite.Facts := ⟨by decide, by decide, by decide, by decide, by decide⟩

/-- The reference of the call that `Wgt/Up.lean` is about is host code and has no semaphores. -/
theorem frame_reference_up : Cert.quiescent_ReferenceUpIdeal := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

/-- The reference of the call that `Wgt/Down.lean` is about is host code and has no semaphores. -/
theorem frame_reference_down : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

/-- The reference of the call that `Wgt/Mix.lean` is about is host code and has no semaphores. -/
theorem frame_reference_mix : Cert.quiescent_ReferenceMixIdeal := fun m ρ _ =>
  (θ_run Cert.ReferenceMixIdeal.defs _ _).mono (fun r h => ⟨fun c => (h c).2, sem_eq_zero_of_no_sems (by decide) r.2⟩)
    (Cert.ReferenceMixIdeal.Value.run (F := Ideal) m ρ)

/-- The reference of the call that `Wgt/Last.lean` is about is host code and has no semaphores. -/
theorem frame_reference_last : Cert.quiescent_ReferenceLastIdeal := fun m ρ _ =>
  (θ_run Cert.ReferenceLastIdeal.defs _ _).mono (fun r h => ⟨fun c => (h c).2, sem_eq_zero_of_no_sems (by decide) r.2⟩)
    (Cert.ReferenceLastIdeal.Value.run (F := Ideal) m ρ)

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelMix.Gen.facts, Cert.KernelMixIdeal.Gen.facts, Cert.ReferenceMixIdeal.Gen.facts,
  Cert.KernelLast.Gen.facts, Cert.KernelLastIdeal.Gen.facts, Cert.ReferenceLastIdeal.Gen.facts,
  facts_finite,
  frame_kernel, frame_ideal, fun m ρ _ => frame_ideal m ρ trivial, frame_reference, fun m ρ _ => frame_reference m ρ trivial,
  fun m ρ _ => Cert.KernelUp.Gen.frame m ρ, fun m ρ _ => Cert.KernelUpIdeal.Gen.frame m ρ, frame_reference_up,
  fun m ρ _ => Cert.KernelDown.Gen.frame m ρ, fun m ρ _ => Cert.KernelDownIdeal.Gen.frame m ρ, frame_reference_down,
  fun m ρ _ => Cert.KernelMix.Gen.frame m ρ, fun m ρ _ => Cert.KernelMixIdeal.Gen.frame m ρ, frame_reference_mix,
  fun m ρ _ => Cert.KernelLast.Gen.frame m ρ, fun m ρ _ => Cert.KernelLastIdeal.Gen.frame m ρ, frame_reference_last,
  trivial, value (hPre_finite := facts_finite), trivial, Wgt.value_up, trivial, Wgt.value_down, trivial, Wgt.value_mix, trivial, Wgt.value_last⟩

end Cert.Proof

end
